-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x128 : Shape := ⟨2, ![64, 128]⟩
abbrev S64 : Shape := ⟨1, ![64]⟩
abbrev S32000x300 : Shape := ⟨2, ![32000, 300]⟩
abbrev S512 : Shape := ⟨1, ![512]⟩
abbrev S512x512 : Shape := ⟨2, ![512, 512]⟩
abbrev S2048x300 : Shape := ⟨2, ![2048, 300]⟩
abbrev S2048 : Shape := ⟨1, ![2048]⟩
abbrev S2048x1024 : Shape := ⟨2, ![2048, 1024]⟩
abbrev S3x512 : Shape := ⟨2, ![3, 512]⟩
abbrev S3 : Shape := ⟨1, ![3]⟩
abbrev S_ : Shape := ⟨0, ![]⟩
abbrev S64x128x1 : Shape := ⟨3, ![64, 128, 1]⟩
abbrev S64x128x300 : Shape := ⟨3, ![64, 128, 300]⟩
abbrev S128x64x300 : Shape := ⟨3, ![128, 64, 300]⟩
abbrev S300x2048 : Shape := ⟨2, ![300, 2048]⟩
abbrev S2048x512 : Shape := ⟨2, ![2048, 512]⟩
abbrev S512x2048 : Shape := ⟨2, ![512, 2048]⟩
abbrev S1x1x512 : Shape := ⟨3, ![1, 1, 512]⟩
abbrev S512x3 : Shape := ⟨2, ![512, 3]⟩
abbrev S1x2048 : Shape := ⟨2, ![1, 2048]⟩
abbrev S1x3 : Shape := ⟨2, ![1, 3]⟩
abbrev S4x16x1 : Shape := ⟨3, ![4, 16, 1]⟩
abbrev S64x3 : Shape := ⟨2, ![64, 3]⟩
abbrev S16x128x300 : Shape := ⟨3, ![16, 128, 300]⟩
abbrev S128x16x300 : Shape := ⟨3, ![128, 16, 300]⟩
abbrev S1x16x1 : Shape := ⟨3, ![1, 16, 1]⟩
abbrev S16x3 : Shape := ⟨2, ![16, 3]⟩
abbrev S16x128x512 : Shape := ⟨3, ![16, 128, 512]⟩
abbrev S128x16x2048 : Shape := ⟨3, ![128, 16, 2048]⟩
abbrev S128x16x512 : Shape := ⟨3, ![128, 16, 512]⟩
abbrev S16x128 : Shape := ⟨2, ![16, 128]⟩
abbrev S128x16x1 : Shape := ⟨3, ![128, 16, 1]⟩
abbrev S16x2048 : Shape := ⟨2, ![16, 2048]⟩
abbrev S2x128x300 : Shape := ⟨3, ![2, 128, 300]⟩
abbrev S256x300 : Shape := ⟨2, ![256, 300]⟩
abbrev S256x2048 : Shape := ⟨2, ![256, 2048]⟩
abbrev S256x512 : Shape := ⟨2, ![256, 512]⟩
abbrev S2x128x512 : Shape := ⟨3, ![2, 128, 512]⟩
abbrev S16x16x300 : Shape := ⟨3, ![16, 16, 300]⟩
abbrev S16x16x2048 : Shape := ⟨3, ![16, 16, 2048]⟩
abbrev S16x16x512 : Shape := ⟨3, ![16, 16, 512]⟩
abbrev S16x1 : Shape := ⟨2, ![16, 1]⟩
abbrev S16x512 : Shape := ⟨2, ![16, 512]⟩
abbrev S1x16x512 : Shape := ⟨3, ![1, 16, 512]⟩
abbrev S8x128x512 : Shape := ⟨3, ![8, 128, 512]⟩
abbrev S8x512 : Shape := ⟨2, ![8, 512]⟩
abbrev S8x1x512 : Shape := ⟨3, ![8, 1, 512]⟩
abbrev S8x128 : Shape := ⟨2, ![8, 128]⟩
abbrev S8 : Shape := ⟨1, ![8]⟩
abbrev S8x1 : Shape := ⟨2, ![8, 1]⟩
abbrev S1x16x2048 : Shape := ⟨3, ![1, 16, 2048]⟩
abbrev S16 : Shape := ⟨1, ![16]⟩

abbrev nBuf : Space → Nat
  | .hbm => 63
  | .vmem => 30
  | .smem => 0
  | _ => 0

abbrev bufTy : (tb : Table) → Fin (tcTables nBuf tb) → BufTy
  | .hbm, ⟨0, _⟩ => ⟨S64x128, .i32⟩
  | .hbm, ⟨1, _⟩ => ⟨S64, .i32⟩
  | .hbm, ⟨2, _⟩ => ⟨S64x128, .i32⟩
  | .hbm, ⟨3, _⟩ => ⟨S64, .i32⟩
  | .hbm, ⟨4, _⟩ => ⟨S32000x300, .f32⟩
  | .hbm, ⟨5, _⟩ => ⟨S512, .f32⟩
  | .hbm, ⟨6, _⟩ => ⟨S512x512, .f32⟩
  | .hbm, ⟨7, _⟩ => ⟨S512x512, .f32⟩
  | .hbm, ⟨8, _⟩ => ⟨S512x512, .f32⟩
  | .hbm, ⟨9, _⟩ => ⟨S2048x300, .f32⟩
  | .hbm, ⟨10, _⟩ => ⟨S2048, .f32⟩
  | .hbm, ⟨11, _⟩ => ⟨S2048x300, .f32⟩
  | .hbm, ⟨12, _⟩ => ⟨S2048, .f32⟩
  | .hbm, ⟨13, _⟩ => ⟨S2048x1024, .f32⟩
  | .hbm, ⟨14, _⟩ => ⟨S2048, .f32⟩
  | .hbm, ⟨15, _⟩ => ⟨S3x512, .f32⟩
  | .hbm, ⟨16, _⟩ => ⟨S3, .f32⟩
  | .hbm, ⟨17, _⟩ => ⟨S_, .i32⟩
  | .hbm, ⟨18, _⟩ => ⟨S64x128, .i32⟩
  | .hbm, ⟨19, _⟩ => ⟨S64x128, .i1⟩
  | .hbm, ⟨20, _⟩ => ⟨S_, .i32⟩
  | .hbm, ⟨21, _⟩ => ⟨S64x128, .i32⟩
  | .hbm, ⟨22, _⟩ => ⟨S64x128, .i32⟩
  | .hbm, ⟨23, _⟩ => ⟨S64x128, .i32⟩
  | .hbm, ⟨24, _⟩ => ⟨S64x128x1, .i32⟩
  | .hbm, ⟨25, _⟩ => ⟨S64x128x300, .f32⟩
  | .hbm, ⟨26, _⟩ => ⟨S64x128x300, .bf16⟩
  | .hbm, ⟨27, _⟩ => ⟨S_, .i32⟩
  | .hbm, ⟨28, _⟩ => ⟨S64x128, .i32⟩
  | .hbm, ⟨29, _⟩ => ⟨S64x128, .i1⟩
  | .hbm, ⟨30, _⟩ => ⟨S_, .i32⟩
  | .hbm, ⟨31, _⟩ => ⟨S64x128, .i32⟩
  | .hbm, ⟨32, _⟩ => ⟨S64x128, .i32⟩
  | .hbm, ⟨33, _⟩ => ⟨S64x128, .i32⟩
  | .hbm, ⟨34, _⟩ => ⟨S64x128x1, .i32⟩
  | .hbm, ⟨35, _⟩ => ⟨S64x128x300, .f32⟩
  | .hbm, ⟨36, _⟩ => ⟨S128x64x300, .f32⟩
  | .hbm, ⟨37, _⟩ => ⟨S128x64x300, .bf16⟩
  | .hbm, ⟨38, _⟩ => ⟨S300x2048, .f32⟩
  | .hbm, ⟨39, _⟩ => ⟨S300x2048, .bf16⟩
  | .hbm, ⟨40, _⟩ => ⟨S300x2048, .f32⟩
  | .hbm, ⟨41, _⟩ => ⟨S300x2048, .bf16⟩
  | .hbm, ⟨42, _⟩ => ⟨S512x512, .f32⟩
  | .hbm, ⟨43, _⟩ => ⟨S512x512, .bf16⟩
  | .hbm, ⟨44, _⟩ => ⟨S512x512, .f32⟩
  | .hbm, ⟨45, _⟩ => ⟨S512x512, .bf16⟩
  | .hbm, ⟨46, _⟩ => ⟨S512x512, .f32⟩
  | .hbm, ⟨47, _⟩ => ⟨S512x512, .bf16⟩
  | .hbm, ⟨48, _⟩ => ⟨S2048x512, .f32⟩
  | .hbm, ⟨49, _⟩ => ⟨S512x2048, .f32⟩
  | .hbm, ⟨50, _⟩ => ⟨S512x2048, .bf16⟩
  | .hbm, ⟨51, _⟩ => ⟨S2048x512, .f32⟩
  | .hbm, ⟨52, _⟩ => ⟨S512x2048, .f32⟩
  | .hbm, ⟨53, _⟩ => ⟨S512x2048, .bf16⟩
  | .hbm, ⟨54, _⟩ => ⟨S1x1x512, .f32⟩
  | .hbm, ⟨55, _⟩ => ⟨S512x3, .f32⟩
  | .hbm, ⟨56, _⟩ => ⟨S1x2048, .f32⟩
  | .hbm, ⟨57, _⟩ => ⟨S1x2048, .f32⟩
  | .hbm, ⟨58, _⟩ => ⟨S1x2048, .f32⟩
  | .hbm, ⟨59, _⟩ => ⟨S1x3, .f32⟩
  | .hbm, ⟨60, _⟩ => ⟨S4x16x1, .i32⟩
  | .hbm, ⟨61, _⟩ => ⟨S4x16x1, .i32⟩
  | .hbm, ⟨62, _⟩ => ⟨S64x3, .f32⟩
  | .local _ .vmem, ⟨0, _⟩ => ⟨S16x128x300, .bf16⟩
  | .local _ .vmem, ⟨1, _⟩ => ⟨S16x128x300, .bf16⟩
  | .local _ .vmem, ⟨2, _⟩ => ⟨S128x16x300, .bf16⟩
  | .local _ .vmem, ⟨3, _⟩ => ⟨S128x16x300, .bf16⟩
  | .local _ .vmem, ⟨4, _⟩ => ⟨S1x16x1, .i32⟩
  | .local _ .vmem, ⟨5, _⟩ => ⟨S1x16x1, .i32⟩
  | .local _ .vmem, ⟨6, _⟩ => ⟨S1x16x1, .i32⟩
  | .local _ .vmem, ⟨7, _⟩ => ⟨S1x16x1, .i32⟩
  | .local _ .vmem, ⟨8, _⟩ => ⟨S300x2048, .bf16⟩
  | .local _ .vmem, ⟨9, _⟩ => ⟨S1x2048, .f32⟩
  | .local _ .vmem, ⟨10, _⟩ => ⟨S300x2048, .bf16⟩
  | .local _ .vmem, ⟨11, _⟩ => ⟨S1x2048, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x2048, .bf16⟩
  | .local _ .vmem, ⟨16, _⟩ => ⟨S512x2048, .bf16⟩
  | .local _ .vmem, ⟨17, _⟩ => ⟨S1x2048, .f32⟩
  | .local _ .vmem, ⟨18, _⟩ => ⟨S1x1x512, .f32⟩
  | .local _ .vmem, ⟨19, _⟩ => ⟨S512x3, .f32⟩
  | .local _ .vmem, ⟨20, _⟩ => ⟨S1x3, .f32⟩
  | .local _ .vmem, ⟨21, _⟩ => ⟨S16x3, .f32⟩
  | .local _ .vmem, ⟨22, _⟩ => ⟨S16x3, .f32⟩
  | .local _ .vmem, ⟨23, _⟩ => ⟨S2048x512, .bf16⟩
  | .local _ .vmem, ⟨24, _⟩ => ⟨S16x128x512, .f32⟩
  | .local _ .vmem, ⟨25, _⟩ => ⟨S128x16x2048, .bf16⟩
  | .local _ .vmem, ⟨26, _⟩ => ⟨S128x16x512, .f32⟩
  | .local _ .vmem, ⟨27, _⟩ => ⟨S16x128, .f32⟩
  | .local _ .vmem, ⟨28, _⟩ => ⟨S128x16x1, .f32⟩
  | .local _ .vmem, ⟨29, _⟩ => ⟨S16x2048, .bf16⟩
  | _, _ => ⟨S64x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_c_1 : Ref sig .tc := ⟨.hbm, 27, rfl⟩
abbrev main_v8 : Ref sig .tc := ⟨.hbm, 28, rfl⟩
abbrev main_v9 : Ref sig .tc := ⟨.hbm, 29, rfl⟩
abbrev main_c_2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg17_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_scratch5 : Ref sig .tc := ⟨.vmem, 28, rfl⟩
abbrev cc0_scratch6 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem17_1 : DmaSem sig := 22

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_299 : BitVec 32 := 0#32
  let c128_i32_300 : BitVec 32 := 128#32
  let v615 : BitVec 32 := Scalar.addi c0_i32_299 c128_i32_300
  let c1_i32_301 : BitVec 32 := 1#32
  ⟨c0_i32_299, v615, c1_i32_301⟩
def k0_off1 (k0_t1 : Fin k0_t1_loop.trips) : Fin 3 → Nat :=
  let c0_i32_299 : BitVec 32 := 0#32
  let c1_i32_301 : BitVec 32 := 1#32
  let arg26 : BitVec 32 := Scf.iv c0_i32_299 c1_i32_301 k0_t1
  let v635 : Index := Scalar.indexCast arg26
  let c0_312 : Index := 0#32
  let c0_313 : Index := 0#32
  ![v635.toNat, 0, 0]
def k0_off2 (k0_t1 : Fin k0_t1_loop.trips) : Fin 3 → Nat :=
  let c0_i32_299 : BitVec 32 := 0#32
  let c1_i32_301 : BitVec 32 := 1#32
  let arg26 : BitVec 32 := Scf.iv c0_i32_299 c1_i32_301 k0_t1
  let v704 : Index := Scalar.indexCast arg26
  let c0_351 : Index := 0#32
  let c0_352 : Index := 0#32
  ![v704.toNat, 0, 0]
def k0_off3 (k0_t1 : Fin k0_t1_loop.trips) : Fin 3 → Nat :=
  let c0_i32_299 : BitVec 32 := 0#32
  let c1_i32_301 : BitVec 32 := 1#32
  let arg26 : BitVec 32 := Scf.iv c0_i32_299 c1_i32_301 k0_t1
  let v718 : Index := Scalar.indexCast arg26
  let c0_353 : Index := 0#32
  let c0_354 : Index := 0#32
  ![v718.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x128x300 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x16x300 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S300x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S300x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x3 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x3 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S16x3 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== ReferenceIdeal.lean ====
abbrev S64x128 : Shape := ⟨2, ![64, 128]⟩
abbrev S64 : Shape := ⟨1, ![64]⟩
abbrev S32000x300 : Shape := ⟨2, ![32000, 300]⟩
abbrev S512 : Shape := ⟨1, ![512]⟩
abbrev S512x512 : Shape := ⟨2, ![512, 512]⟩
abbrev S2048x300 : Shape := ⟨2, ![2048, 300]⟩
abbrev S2048 : Shape := ⟨1, ![2048]⟩
abbrev S2048x1024 : Shape := ⟨2, ![2048, 1024]⟩
abbrev S3x512 : Shape := ⟨2, ![3, 512]⟩
abbrev S3 : Shape := ⟨1, ![3]⟩
abbrev S_ : Shape := ⟨0, ![]⟩
abbrev S64x128x1 : Shape := ⟨3, ![64, 128, 1]⟩
abbrev S64x128x300 : Shape := ⟨3, ![64, 128, 300]⟩
abbrev S300x2048 : Shape := ⟨2, ![300, 2048]⟩
abbrev S64x128x2048 : Shape := ⟨3, ![64, 128, 2048]⟩
abbrev S1x1x2048 : Shape := ⟨3, ![1, 1, 2048]⟩
abbrev S64x128x512 : Shape := ⟨3, ![64, 128, 512]⟩
abbrev S128 : Shape := ⟨1, ![128]⟩
abbrev S1x128 : Shape := ⟨2, ![1, 128]⟩
abbrev S64x1 : Shape := ⟨2, ![64, 1]⟩
abbrev S64x512 : Shape := ⟨2, ![64, 512]⟩
abbrev S128x64x512 : Shape := ⟨3, ![128, 64, 512]⟩
abbrev S1 : Shape := ⟨1, ![1]⟩
abbrev S1x64x512 : Shape := ⟨3, ![1, 64, 512]⟩
abbrev S64x1x512 : Shape := ⟨3, ![64, 1, 512]⟩
abbrev S64x1024 : Shape := ⟨2, ![64, 1024]⟩
abbrev S1024x2048 : Shape := ⟨2, ![1024, 2048]⟩
abbrev S64x2048 : Shape := ⟨2, ![64, 2048]⟩
abbrev S1x2048 : Shape := ⟨2, ![1, 2048]⟩
abbrev S512x3 : Shape := ⟨2, ![512, 3]⟩
abbrev S64x3 : Shape := ⟨2, ![64, 3]⟩
abbrev S1x3 : Shape := ⟨2, ![1, 3]⟩

abbrev nBuf : Space → Nat
  | .hbm => 218
  | .vmem => 0
  | .smem => 0
  | _ => 0

abbrev hbmTy0_0 (i : Nat) : BufTy := match i % 128 with
  | 0 => ⟨S64x128, .i32⟩
  | 1 => ⟨S64, .i32⟩
  | 2 => ⟨S64x128, .i32⟩
  | 3 => ⟨S64, .i32⟩
  | 4 => ⟨S32000x300, .f32⟩
  | 5 => ⟨S512, .f32⟩
  | 6 => ⟨S512x512, .f32⟩
  | 7 => ⟨S512x512, .f32⟩
  | 8 => ⟨S512x512, .f32⟩
  | 9 => ⟨S2048x300, .f32⟩
  | 10 => ⟨S2048, .f32⟩
  | 11 => ⟨S2048x300, .f32⟩
  | 12 => ⟨S2048, .f32⟩
  | 13 => ⟨S2048x1024, .f32⟩
  | 14 => ⟨S2048, .f32⟩
  | 15 => ⟨S3x512, .f32⟩
  | 16 => ⟨S3, .f32⟩
  | 17 => ⟨S_, .i32⟩
  | 18 => ⟨S64x128, .i32⟩
  | 19 => ⟨S64x128, .i1⟩
  | 20 => ⟨S_, .i32⟩
  | 21 => ⟨S64x128, .i32⟩
  | 22 => ⟨S64x128, .i32⟩
  | 23 => ⟨S64x128, .i32⟩
  | 24 => ⟨S64x128x1, .i32⟩
  | 25 => ⟨S64x128x300, .f32⟩
  | 26 => ⟨S_, .i32⟩
  | 27 => ⟨S64x128, .i32⟩
  | 28 => ⟨S64x128, .i1⟩
  | 29 => ⟨S_, .i32⟩
  | 30 => ⟨S64x128, .i32⟩
  | 31 => ⟨S64x128, .i32⟩
  | 32 => ⟨S64x128, .i32⟩
  | 33 => ⟨S64x128x1, .i32⟩
  | 34 => ⟨S64x128x300, .f32⟩
  | 35 => ⟨S300x2048, .f32⟩
  | 36 => ⟨S64x128x2048, .f32⟩
  | 37 => ⟨S1x1x2048, .f32⟩
  | 38 => ⟨S64x128x2048, .f32⟩
  | 39 => ⟨S64x128x2048, .f32⟩
  | 40 => ⟨S64x128x512, .f32⟩
  | 41 => ⟨S64x128x512, .f32⟩
  | 42 => ⟨S64x128x512, .f32⟩
  | 43 => ⟨S64x128x512, .f32⟩
  | 44 => ⟨S64x128x512, .f32⟩
  | 45 => ⟨S64x128x512, .f32⟩
  | 46 => ⟨S_, .f32⟩
  | 47 => ⟨S64x128x512, .f32⟩
  | 48 => ⟨S64x128x512, .f32⟩
  | 49 => ⟨S_, .f32⟩
  | 50 => ⟨S64x128x512, .f32⟩
  | 51 => ⟨S64x128x512, .f32⟩
  | 52 => ⟨S64x128x512, .f32⟩
  | 53 => ⟨S64x128x512, .f32⟩
  | 54 => ⟨S64x128x512, .f32⟩
  | 55 => ⟨S64x128x512, .f32⟩
  | 56 => ⟨S_, .f32⟩
  | 57 => ⟨S64x128x512, .f32⟩
  | 58 => ⟨S64x128x512, .f32⟩
  | 59 => ⟨S_, .f32⟩
  | 60 => ⟨S64x128x512, .f32⟩
  | 61 => ⟨S64x128x512, .f32⟩
  | 62 => ⟨S64x128x512, .f32⟩
  | 63 => ⟨S64x128x512, .f32⟩
  | 64 => ⟨S300x2048, .f32⟩
  | 65 => ⟨S64x128x2048, .f32⟩
  | 66 => ⟨S1x1x2048, .f32⟩
  | 67 => ⟨S64x128x2048, .f32⟩
  | 68 => ⟨S64x128x2048, .f32⟩
  | 69 => ⟨S64x128x512, .f32⟩
  | 70 => ⟨S64x128x512, .f32⟩
  | 71 => ⟨S64x128x512, .f32⟩
  | 72 => ⟨S64x128x512, .f32⟩
  | 73 => ⟨S64x128x512, .f32⟩
  | 74 => ⟨S64x128x512, .f32⟩
  | 75 => ⟨S_, .f32⟩
  | 76 => ⟨S64x128x512, .f32⟩
  | 77 => ⟨S64x128x512, .f32⟩
  | 78 => ⟨S_, .f32⟩
  | 79 => ⟨S64x128x512, .f32⟩
  | 80 => ⟨S64x128x512, .f32⟩
  | 81 => ⟨S64x128x512, .f32⟩
  | 82 => ⟨S64x128x512, .f32⟩
  | 83 => ⟨S64x128x512, .f32⟩
  | 84 => ⟨S64x128x512, .f32⟩
  | 85 => ⟨S_, .f32⟩
  | 86 => ⟨S64x128x512, .f32⟩
  | 87 => ⟨S64x128x512, .f32⟩
  | 88 => ⟨S_, .f32⟩
  | 89 => ⟨S64x128x512, .f32⟩
  | 90 => ⟨S64x128x512, .f32⟩
  | 91 => ⟨S64x128x512, .f32⟩
  | 92 => ⟨S64x128x512, .f32⟩
  | 93 => ⟨S512x512, .f32⟩
  | 94 => ⟨S64x128x512, .f32⟩
  | 95 => ⟨S512x512, .f32⟩
  | 96 => ⟨S64x128x512, .f32⟩
  | 97 => ⟨S128, .i32⟩
  | 98 => ⟨S1x128, .i32⟩
  | 99 => ⟨S64x1, .i32⟩
  | 100 => ⟨S64x128, .i32⟩
  | 101 => ⟨S64x128, .i32⟩
  | 102 => ⟨S64x128, .i1⟩
  | 103 => ⟨S_, .f32⟩
  | 104 => ⟨S64x512, .f32⟩
  | 105 => ⟨S128, .i32⟩
  | 106 => ⟨S128x64x512, .f32⟩
  | 107 => ⟨S128x64x512, .f32⟩
  | 108 => ⟨S_, .i32⟩
  | 109 => ⟨S128, .i32⟩
  | 110 => ⟨S128x64x512, .f32⟩
  | 111 => ⟨S128x64x512, .f32⟩
  | 112 => ⟨S512x512, .f32⟩
  | 113 => ⟨S64x128x512, .f32⟩
  | 114 => ⟨S512, .f32⟩
  | 115 => ⟨S64x128, .i1⟩
  | 116 => ⟨S64x128x512, .f32⟩
  | 117 => ⟨S2048x1024, .f32⟩
  | 118 => ⟨S2048, .f32⟩
  | 119 => ⟨S64, .i32⟩
  | 120 => ⟨S_, .i32⟩
  | 121 => ⟨S64x512, .f32⟩
  | 122 => ⟨S_, .i32⟩
  | 123 => ⟨S_, .i1⟩
  | 124 => ⟨S1, .i32⟩
  | 125 => ⟨S_, .i32⟩
  | 126 => ⟨S_, .i32⟩
  | 127 => ⟨S_, .i32⟩
  | _ => ⟨S64x128, .i32⟩

abbrev hbmTy0_1 (i : Nat) : BufTy := match i % 128 with
  | 0 => ⟨S1x64x512, .f32⟩
  | 1 => ⟨S64x512, .f32⟩
  | 2 => ⟨S_, .i32⟩
  | 3 => ⟨S_, .i32⟩
  | 4 => ⟨S1x64x512, .f32⟩
  | 5 => ⟨S64x512, .f32⟩
  | 6 => ⟨S512x512, .f32⟩
  | 7 => ⟨S64x512, .f32⟩
  | 8 => ⟨S64x512, .f32⟩
  | 9 => ⟨S64x1x512, .f32⟩
  | 10 => ⟨S64x128x512, .f32⟩
  | 11 => ⟨S64x128x512, .f32⟩
  | 12 => ⟨S64x128x512, .f32⟩
  | 13 => ⟨S64x128, .f32⟩
  | 14 => ⟨S_, .f32⟩
  | 15 => ⟨S_, .f32⟩
  | 16 => ⟨S64x128, .f32⟩
  | 17 => ⟨S64x128, .f32⟩
  | 18 => ⟨S_, .f32⟩
  | 19 => ⟨S64, .f32⟩
  | 20 => ⟨S_, .f32⟩
  | 21 => ⟨S64, .f32⟩
  | 22 => ⟨S64, .f32⟩
  | 23 => ⟨S64x1, .f32⟩
  | 24 => ⟨S64x128, .f32⟩
  | 25 => ⟨S64x128, .f32⟩
  | 26 => ⟨S64x128, .f32⟩
  | 27 => ⟨S_, .f32⟩
  | 28 => ⟨S64, .f32⟩
  | 29 => ⟨S64x1, .f32⟩
  | 30 => ⟨S64x128, .f32⟩
  | 31 => ⟨S64x128, .f32⟩
  | 32 => ⟨S64x512, .f32⟩
  | 33 => ⟨S64x1024, .f32⟩
  | 34 => ⟨S1024x2048, .f32⟩
  | 35 => ⟨S64x2048, .f32⟩
  | 36 => ⟨S1x2048, .f32⟩
  | 37 => ⟨S64x2048, .f32⟩
  | 38 => ⟨S64x2048, .f32⟩
  | 39 => ⟨S64x512, .f32⟩
  | 40 => ⟨S64x512, .f32⟩
  | 41 => ⟨S64x512, .f32⟩
  | 42 => ⟨S64x512, .f32⟩
  | 43 => ⟨S64x512, .f32⟩
  | 44 => ⟨S64x512, .f32⟩
  | 45 => ⟨S_, .f32⟩
  | 46 => ⟨S64x512, .f32⟩
  | 47 => ⟨S64x512, .f32⟩
  | 48 => ⟨S_, .f32⟩
  | 49 => ⟨S64x512, .f32⟩
  | 50 => ⟨S64x512, .f32⟩
  | 51 => ⟨S64x512, .f32⟩
  | 52 => ⟨S64x512, .f32⟩
  | 53 => ⟨S64x512, .f32⟩
  | 54 => ⟨S64x512, .f32⟩
  | 55 => ⟨S_, .f32⟩
  | 56 => ⟨S64x512, .f32⟩
  | 57 => ⟨S64x512, .f32⟩
  | 58 => ⟨S_, .f32⟩
  | 59 => ⟨S64x512, .f32⟩
  | 60 => ⟨S64x512, .f32⟩
  | 61 => ⟨S64x512, .f32⟩
  | 62 => ⟨S64x512, .f32⟩
  | 63 => ⟨S64, .i32⟩
  | 64 => ⟨S64, .i1⟩
  | 65 => ⟨S64x1, .i1⟩
  | 66 => ⟨S64x512, .i1⟩
  | 67 => ⟨S64x512, .f32⟩
  | 68 => ⟨S_, .i32⟩
  | 69 => ⟨S_, .i32⟩
  | 70 => ⟨S512x3, .f32⟩
  | 71 => ⟨S64x3, .f32⟩
  | 72 => ⟨S1x3, .f32⟩
  | 73 => ⟨S64x3, .f32⟩
  | 74 => ⟨S64x3, .f32⟩
  | 75 => ⟨S_, .f32⟩
  | 76 => ⟨S64, .f32⟩
  | 77 => ⟨S_, .f32⟩
  | 78 => ⟨S64, .f32⟩
  | 79 => ⟨S64, .f32⟩
  | 80 => ⟨S64x1, .f32⟩
  | 81 => ⟨S64x3, .f32⟩
  | 82 => ⟨S64x3, .f32⟩
  | 83 => ⟨S64x3, .f32⟩
  | 84 => ⟨S_, .f32⟩
  | 85 => ⟨S64, .f32⟩
  | 86 => ⟨S64x1, .f32⟩
  | 87 => ⟨S64x1, .f32⟩
  | 88 => ⟨S64x3, .f32⟩
  | 89 => ⟨S64x3, .f32⟩
  | _ => ⟨S64x128, .i32⟩

abbrev hbmTy (i : Nat) : BufTy := match i / 128 with
  | 0 => hbmTy0_0 i
  | 1 => hbmTy0_1 i
  | _ => ⟨S64x128, .i32⟩

abbrev bufTy : (tb : Table) → Fin (tcTables nBuf tb) → BufTy
  | .hbm, ⟨i, _⟩ => hbmTy i
  | _, _ => ⟨S64x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c_1 : Ref sig .tc := ⟨.hbm, 26, rfl⟩
abbrev main_v7 : Ref sig .tc := ⟨.hbm, 27, rfl⟩
abbrev main_v8 : Ref sig .tc := ⟨.hbm, 28, rfl⟩
abbrev main_c_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst : Ref sig .tc := ⟨.hbm, 46, rfl⟩
abbrev main_v25 : Ref sig .tc := ⟨.hbm, 47, rfl⟩
abbrev main_v26 : Ref sig .tc := ⟨.hbm, 48, rfl⟩
abbrev main_cst_3 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_4 : Ref sig .tc := ⟨.hbm, 56, rfl⟩
abbrev main_v33 : Ref sig .tc := ⟨.hbm, 57, rfl⟩
abbrev main_v34 : Ref sig .tc := ⟨.hbm, 58, rfl⟩
abbrev main_cst_5 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_6 : Ref sig .tc := ⟨.hbm, 75, rfl⟩
abbrev main_v50 : Ref sig .tc := ⟨.hbm, 76, rfl⟩
abbrev main_v51 : Ref sig .tc := ⟨.hbm, 77, rfl⟩
abbrev main_cst_7 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_8 : Ref sig .tc := ⟨.hbm, 85, rfl⟩
abbrev main_v58 : Ref sig .tc := ⟨.hbm, 86, rfl⟩
abbrev main_v59 : Ref sig .tc := ⟨.hbm, 87, rfl⟩
abbrev main_cst_9 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_10 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_c_11 : Ref sig .tc := ⟨.hbm, 108, rfl⟩
abbrev main_v78_0 : Ref sig .tc := ⟨.hbm, 109, rfl⟩
abbrev main_v78_1 : Ref sig .tc := ⟨.hbm, 110, rfl⟩
abbrev main_v78_2 : Ref sig .tc := ⟨.hbm, 111, rfl⟩
abbrev main_v78_3 : Ref sig .tc := ⟨.hbm, 112, rfl⟩
abbrev main_v78_4 : Ref sig .tc := ⟨.hbm, 113, rfl⟩
abbrev main_v78_5 : Ref sig .tc := ⟨.hbm, 114, rfl⟩
abbrev main_v78_6 : Ref sig .tc := ⟨.hbm, 115, rfl⟩
abbrev main_v78_7 : Ref sig .tc := ⟨.hbm, 116, rfl⟩
abbrev main_v78_8 : Ref sig .tc := ⟨.hbm, 117, rfl⟩
abbrev main_v78_9 : Ref sig .tc := ⟨.hbm, 118, rfl⟩
abbrev main_v78_10 : Ref sig .tc := ⟨.hbm, 119, rfl⟩
abbrev main_v78_11 : Ref sig .tc := ⟨.hbm, 120, rfl⟩
abbrev main_v78_12 : Ref sig .tc := ⟨.hbm, 121, rfl⟩
abbrev main_while0c_c_24 : Ref sig .tc := ⟨.hbm, 122, rfl⟩
abbrev main_while0c_v85 : Ref sig .tc := ⟨.hbm, 123, rfl⟩
abbrev main_while0b_call0_v0 : Ref sig .tc := ⟨.hbm, 124, rfl⟩
abbrev main_while0b_v85 : Ref sig .tc := ⟨.hbm, 125, rfl⟩
abbrev main_while0b_call1_c : Ref sig .tc := ⟨.hbm, 126, rfl⟩
abbrev main_while0b_call1_c_0 : Ref sig .tc := ⟨.hbm, 127, rfl⟩
abbrev main_while0b_call1_v0 : Ref sig .tc := ⟨.hbm, 128, rfl⟩
abbrev main_while0b_v86 : Ref sig .tc := ⟨.hbm, 129, rfl⟩
abbrev main_while0b_call2_c : Ref sig .tc := ⟨.hbm, 130, rfl⟩
abbrev main_while0b_call2_c_0 : Ref sig .tc := ⟨.hbm, 131, rfl⟩
abbrev main_while0b_call2_v0 : Ref sig .tc := ⟨.hbm, 132, rfl⟩
abbrev main_while0b_v87 : Ref sig .tc := ⟨.hbm, 133, rfl⟩
abbrev main_while0b_v88 : Ref sig .tc := ⟨.hbm, 134, rfl⟩
abbrev main_while0b_v89 : Ref sig .tc := ⟨.hbm, 135, rfl⟩
abbrev main_while0b_v90 : Ref sig .tc := ⟨.hbm, 136, rfl⟩
abbrev main_while0b_v91 : Ref sig .tc := ⟨.hbm, 137, rfl⟩
abbrev main_while0b_v92 : Ref sig .tc := ⟨.hbm, 138, rfl⟩
abbrev main_while0b_v93 : Ref sig .tc := ⟨.hbm, 139, rfl⟩
abbrev main_while0b_v94 : Ref sig .tc := ⟨.hbm, 140, rfl⟩
abbrev main_while0b_v95 : Ref sig .tc := ⟨.hbm, 141, rfl⟩
abbrev main_while0b_cst_24 : Ref sig .tc := ⟨.hbm, 142, rfl⟩
abbrev main_while0b_call3_v0 : Ref sig .tc := ⟨.hbm, 143, rfl⟩
abbrev main_while0b_call3_v1 : Ref sig .tc := ⟨.hbm, 144, rfl⟩
abbrev main_while0b_v96 : Ref sig .tc := ⟨.hbm, 145, rfl⟩
abbrev main_while0b_cst_25 : Ref sig .tc := ⟨.hbm, 146, rfl⟩
abbrev main_while0b_v97 : Ref sig .tc := ⟨.hbm, 147, rfl⟩
abbrev main_while0b_cst_26 : Ref sig .tc := ⟨.hbm, 148, rfl⟩
abbrev main_while0b_v98 : Ref sig .tc := ⟨.hbm, 149, rfl⟩
abbrev main_while0b_v99 : Ref sig .tc := ⟨.hbm, 150, rfl⟩
abbrev main_while0b_v100 : Ref sig .tc := ⟨.hbm, 151, rfl⟩
abbrev main_while0b_v101 : Ref sig .tc := ⟨.hbm, 152, rfl⟩
abbrev main_while0b_v102 : Ref sig .tc := ⟨.hbm, 153, rfl⟩
abbrev main_while0b_v103 : Ref sig .tc := ⟨.hbm, 154, rfl⟩
abbrev main_while0b_cst_27 : Ref sig .tc := ⟨.hbm, 155, rfl⟩
abbrev main_while0b_v104 : Ref sig .tc := ⟨.hbm, 156, rfl⟩
abbrev main_while0b_v105 : Ref sig .tc := ⟨.hbm, 157, rfl⟩
abbrev main_while0b_v106 : Ref sig .tc := ⟨.hbm, 158, rfl⟩
abbrev main_while0b_v107 : Ref sig .tc := ⟨.hbm, 159, rfl⟩
abbrev main_while0b_v108 : Ref sig .tc := ⟨.hbm, 160, rfl⟩
abbrev main_while0b_v109 : Ref sig .tc := ⟨.hbm, 161, rfl⟩
abbrev main_while0b_v110 : Ref sig .tc := ⟨.hbm, 162, rfl⟩
abbrev main_while0b_v111 : Ref sig .tc := ⟨.hbm, 163, rfl⟩
abbrev main_while0b_v112 : Ref sig .tc := ⟨.hbm, 164, rfl⟩
abbrev main_while0b_v113 : Ref sig .tc := ⟨.hbm, 165, rfl⟩
abbrev main_while0b_v114 : Ref sig .tc := ⟨.hbm, 166, rfl⟩
abbrev main_while0b_v115 : Ref sig .tc := ⟨.hbm, 167, rfl⟩
abbrev main_while0b_v116 : Ref sig .tc := ⟨.hbm, 168, rfl⟩
abbrev main_while0b_v117 : Ref sig .tc := ⟨.hbm, 169, rfl⟩
abbrev main_while0b_v118 : Ref sig .tc := ⟨.hbm, 170, rfl⟩
abbrev main_while0b_v119 : Ref sig .tc := ⟨.hbm, 171, rfl⟩
abbrev main_while0b_v120 : Ref sig .tc := ⟨.hbm, 172, rfl⟩
abbrev main_while0b_cst_28 : Ref sig .tc := ⟨.hbm, 173, rfl⟩
abbrev main_while0b_v121 : Ref sig .tc := ⟨.hbm, 174, rfl⟩
abbrev main_while0b_v122 : Ref sig .tc := ⟨.hbm, 175, rfl⟩
abbrev main_while0b_cst_29 : Ref sig .tc := ⟨.hbm, 176, rfl⟩
abbrev main_while0b_v123 : Ref sig .tc := ⟨.hbm, 177, rfl⟩
abbrev main_while0b_v124 : Ref sig .tc := ⟨.hbm, 178, rfl⟩
abbrev main_while0b_v125 : Ref sig .tc := ⟨.hbm, 179, rfl⟩
abbrev main_while0b_v126 : Ref sig .tc := ⟨.hbm, 180, rfl⟩
abbrev main_while0b_v127 : Ref sig .tc := ⟨.hbm, 181, rfl⟩
abbrev main_while0b_v128 : Ref sig .tc := ⟨.hbm, 182, rfl⟩
abbrev main_while0b_cst_30 : Ref sig .tc := ⟨.hbm, 183, rfl⟩
abbrev main_while0b_v129 : Ref sig .tc := ⟨.hbm, 184, rfl⟩
abbrev main_while0b_v130 : Ref sig .tc := ⟨.hbm, 185, rfl⟩
abbrev main_while0b_cst_31 : Ref sig .tc := ⟨.hbm, 186, rfl⟩
abbrev main_while0b_v131 : Ref sig .tc := ⟨.hbm, 187, rfl⟩
abbrev main_while0b_v132 : Ref sig .tc := ⟨.hbm, 188, rfl⟩
abbrev main_while0b_v133 : Ref sig .tc := ⟨.hbm, 189, rfl⟩
abbrev main_while0b_v134 : Ref sig .tc := ⟨.hbm, 190, rfl⟩
abbrev main_while0b_v135 : Ref sig .tc := ⟨.hbm, 191, rfl⟩
abbrev main_while0b_v136 : Ref sig .tc := ⟨.hbm, 192, rfl⟩
abbrev main_while0b_v137 : Ref sig .tc := ⟨.hbm, 193, rfl⟩
abbrev main_while0b_call4_v0 : Ref sig .tc := ⟨.hbm, 194, rfl⟩
abbrev main_while0b_v138 : Ref sig .tc := ⟨.hbm, 195, rfl⟩
abbrev main_while0b_c_32 : Ref sig .tc := ⟨.hbm, 196, rfl⟩
abbrev main_while0b_v139 : Ref sig .tc := ⟨.hbm, 197, rfl⟩
abbrev main_v79 : Ref sig .tc := ⟨.hbm, 198, rfl⟩
abbrev main_v80 : Ref sig .tc := ⟨.hbm, 199, rfl⟩
abbrev main_v81 : Ref sig .tc := ⟨.hbm, 200, rfl⟩
abbrev main_v82 : Ref sig .tc := ⟨.hbm, 201, rfl⟩
abbrev main_v83 : Ref sig .tc := ⟨.hbm, 202, rfl⟩
abbrev main_call5_cst : Ref sig .tc := ⟨.hbm, 203, rfl⟩
abbrev main_call5_v0 : Ref sig .tc := ⟨.hbm, 204, rfl⟩
abbrev main_call5_cst_0 : Ref sig .tc := ⟨.hbm, 205, rfl⟩
abbrev main_call5_v1 : Ref sig .tc := ⟨.hbm, 206, rfl⟩
abbrev main_call5_v2 : Ref sig .tc := ⟨.hbm, 207, rfl⟩
abbrev main_call5_v3 : Ref sig .tc := ⟨.hbm, 208, rfl⟩
abbrev main_call5_v4 : Ref sig .tc := ⟨.hbm, 209, rfl⟩
abbrev main_call5_v5 : Ref sig .tc := ⟨.hbm, 210, rfl⟩
abbrev main_call5_v6 : Ref sig .tc := ⟨.hbm, 211, rfl⟩
abbrev main_call5_cst_1 : Ref sig .tc := ⟨.hbm, 212, rfl⟩
abbrev main_call5_v7 : Ref sig .tc := ⟨.hbm, 213, rfl⟩
abbrev main_call5_v8 : Ref sig .tc := ⟨.hbm, 214, rfl⟩
abbrev main_call5_v9 : Ref sig .tc := ⟨.hbm, 215, rfl⟩
abbrev main_call5_v10 : Ref sig .tc := ⟨.hbm, 216, rfl⟩
abbrev main_v84 : Ref sig .tc := ⟨.hbm, 217, rfl⟩

abbrev nD : Nat := 1
abbrev τ : Topo := Topo.v7x

variable {F : FTy → Type} [FloatOps F]

abbrev main_while0_count : Scf.Loop 32 := ⟨0#32, 128#32, 1#32⟩
-- ==== Proof.KernelFrame.lean ====
module

public import proofs.«01_k».proof.Proof.KernelRun
public import Idealize.ShloMosaic.Lib.Claim

/-! The frame claim of program `Kernel`: the launch of the kernel over its grid, from one run of its body. -/

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Output window 17 is left unnamed here: the frame claim says nothing of its contents. -/
def forgets0 : Fin 18 → Bool := fun w => w.val == 17

/-- The proof data of the launch: the arrays at entry, the buffers after each grid point, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, h⟩ => Pipeline.Dat.unnamed (cfg := cfg0) ⟨17, h⟩ t
    | ⟨_ + 18, h⟩ => absurd h (Nat.not_lt.2 (Nat.le_add_left _ _))
  Φ _ := Pipeline.ΦA spec0 c
  q _ := fullShare
  owed _ := 0

/-- The arrays of the proof data are the contents at entry. -/
theorem A_eq (c : Dev nD) (w : Fin cfg0.W) : (dats m 0 c).A w = V m c (Pipeline.arrRef spec0 w) := by
  dsimp only [dats]

/-- What the body leaves in each window's buffer, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]

/-- Each input buffer holds its block before the body runs. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare d))

/-- What the body returns at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ (∃ d, owns (c : Thread nD τ) (ms0_17 t) fullShare d))

set_option maxHeartbeats 2400000 in
/-- The body at any grid point takes its precondition to its postcondition. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16]
  rw [show (dats m 0 c).Φ t.castSucc = Pipeline.ΦA spec0 c from rfl, PhiA0_eq]
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, H10, H11, H12, H13, H14, H15, H16, H17, HS0, HS1, HS2, HS3, HS4, HS5, HS6⟩
  isplitl [HS0 HS1 HS2 HS3 HS4 HS5 HS6 Hg]
  · isplitl [HS0 HS1 HS2 HS3 HS4 HS5 HS6]
    · isplitl [HS0]
      · iexact HS0
      isplitl [HS1]
      · iexact HS1
      isplitl [HS2]
      · iexact HS2
      isplitl [HS3]
      · iexact HS3
      isplitl [HS4]
      · iexact HS4
      isplitl [HS5]
      · iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- The body called at point `t` is the kernel body on that point's buffers. -/
theorem defs₀_row (t : Fin cfg0.N) :
    defs₀ (F := F) .tc cfg0.body (cfg0.bodyArgs t (cfg0.slots t)) = bodyAt0 t := by
  unfold defs₀; rw [Defs.onTc_tc]

/-- The obligation of the launch, at every grid point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl
set_option backward.isDefEq.respectTransparency.types false in
/-- The whole program runs to the end, its arrays as the proof data say, with every semaphore counter back at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The whole program runs to the end with its arrays as the proof data say. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- An array that no window stages ends with what it held when the launch began. -/
theorem kept {r : PUnit × MemSt nD τ sig (Elt F)} (h : Pipeline.RDat.FramePost (cfgs 0) (fun c => (dats m 0 c).toRForget forgets0) (V m) r)
    (c : Dev nD) (b : Ref sig .tc) (hb : b ∈ Pipeline.restRefs sig (cfgs 0).spec) {x : Buf (Elt F) ((c.tc : Thread nD τ).loc b)} (hV : V m c b = x) :
    r.2.mem ((c.tc : Thread nD τ).loc b) = x :=
  ((h c).2 b hb).trans hV

set_option maxHeartbeats 1080000 in
/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨kept m h c main_arg0 (Pipeline.mem_restRefs_of main_arg0 (by decide) (by decide)) (V_main_arg0 m c),
      kept m h c main_arg1 (Pipeline.mem_restRefs_of main_arg1 (by decide) (by decide)) (V_main_arg1 m c),
      kept m h c main_arg2 (Pipeline.mem_restRefs_of main_arg2 (by decide) (by decide)) (V_main_arg2 m c),
      kept m h c main_arg3 (Pipeline.mem_restRefs_of main_arg3 (by decide) (by decide)) (V_main_arg3 m c),
      kept m h c main_arg4 (Pipeline.mem_restRefs_of main_arg4 (by decide) (by decide)) (V_main_arg4 m c),
      kept m h c main_arg5 (Pipeline.mem_restRefs_of main_arg5 (by decide) (by decide)) (V_main_arg5 m c),
      kept m h c main_arg6 (Pipeline.mem_restRefs_of main_arg6 (by decide) (by decide)) (V_main_arg6 m c),
      kept m h c main_arg7 (Pipeline.mem_restRefs_of main_arg7 (by decide) (by decide)) (V_main_arg7 m c),
      kept m h c main_arg8 (Pipeline.mem_restRefs_of main_arg8 (by decide) (by decide)) (V_main_arg8 m c),
      kept m h c main_arg9 (Pipeline.mem_restRefs_of main_arg9 (by decide) (by decide)) (V_main_arg9 m c),
      kept m h c main_arg10 (Pipeline.mem_restRefs_of main_arg10 (by decide) (by decide)) (V_main_arg10 m c),
      kept m h c main_arg11 (Pipeline.mem_restRefs_of main_arg11 (by decide) (by decide)) (V_main_arg11 m c),
      kept m h c main_arg12 (Pipeline.mem_restRefs_of main_arg12 (by decide) (by decide)) (V_main_arg12 m c),
      kept m h c main_arg13 (Pipeline.mem_restRefs_of main_arg13 (by decide) (by decide)) (V_main_arg13 m c),
      kept m h c main_arg14 (Pipeline.mem_restRefs_of main_arg14 (by decide) (by decide)) (V_main_arg14 m c),
      kept m h c main_arg15 (Pipeline.mem_restRefs_of main_arg15 (by decide) (by decide)) (V_main_arg15 m c),
      kept m h c main_arg16 (Pipeline.mem_restRefs_of main_arg16 (by decide) (by decide)) (V_main_arg16 m c)⟩) (run_main m ρ)

/-- The frame claim: the program runs to the end with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  θ_run_and (unchanged m ρ) ((θ_run defs _ _).mono (fun _ h => h.2) (run_main_quiescent m ρ))

end Cert.Kernel.Gen

end
-- ==== Proof.KernelIdealRun.lean ====
module

public import proofs.«01_k».proof.Proof.Gen.KernelIdeal.Frame.Runs

/-! One run of the kernel body (program `KernelIdeal`), with the budget its length needs. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 8000000 in
/-- One run of the kernel body at a grid point: from whole staging buffers holding the inputs `x0 … x16` and scratch buffers holding anything, the body ends with the inputs unchanged. The pieces it leaves in the output block come with it. -/
noncomputable def kernelRun0_A (c : Dev nD) (i : grid0.Coords) (arg1 : Memref sig .tc .vmem S16x128x300 .bf16) (harg1 : arg1.IsWhole) (arg2 : Memref sig .tc .vmem S128x16x300 .bf16) (harg2 : arg2.IsWhole) (arg3 : Memref sig .tc .vmem S1x16x1 .i32) (harg3 : arg3.IsWhole) (arg4 : Memref sig .tc .vmem S1x16x1 .i32) (harg4 : arg4.IsWhole) (arg5 : Memref sig .tc .vmem S300x2048 .bf16) (harg5 : arg5.IsWhole) (arg6 : Memref sig .tc .vmem S1x2048 .f32) (harg6 : arg6.IsWhole) (arg7 : Memref sig .tc .vmem S300x2048 .bf16) (harg7 : arg7.IsWhole) (arg8 : Memref sig .tc .vmem S1x2048 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x2048 .bf16) (harg12 : arg12.IsWhole) (arg13 : Memref sig .tc .vmem S512x2048 .bf16) (harg13 : arg13.IsWhole) (arg14 : Memref sig .tc .vmem S1x2048 .f32) (harg14 : arg14.IsWhole) (arg15 : Memref sig .tc .vmem S1x1x512 .f32) (harg15 : arg15.IsWhole) (arg16 : Memref sig .tc .vmem S512x3 .f32) (harg16 : arg16.IsWhole) (arg17 : Memref sig .tc .vmem S1x3 .f32) (harg17 : arg17.IsWhole) (arg18 : Memref sig .tc .vmem S16x3 .f32) (harg18 : arg18.IsWhole) (arg19 : Memref sig .tc .vmem S2048x512 .bf16) (harg19 : arg19.IsWhole) (arg20 : Memref sig .tc .vmem S16x128x512 .f32) (harg20 : arg20.IsWhole) (arg21 : Memref sig .tc .vmem S128x16x2048 .bf16) (harg21 : arg21.IsWhole) (arg22 : Memref sig .tc .vmem S128x16x512 .f32) (harg22 : arg22.IsWhole) (arg23 : Memref sig .tc .vmem S16x128 .f32) (harg23 : arg23.IsWhole) (arg24 : Memref sig .tc .vmem S128x16x1 .f32) (harg24 : arg24.IsWhole) (arg25 : Memref sig .tc .vmem S16x2048 .bf16) (harg25 : arg25.IsWhole)
    (x0 : Vec F S16x128x300 .bf16) (x1 : Vec F S128x16x300 .bf16) (x2 : Vec F S1x16x1 .i32) (x3 : Vec F S1x16x1 .i32) (x4 : Vec F S300x2048 .bf16) (x5 : Vec F S1x2048 .f32) (x6 : Vec F S300x2048 .bf16) (x7 : Vec F S1x2048 .f32) (x8 : Vec F S512x512 .bf16) (x9 : Vec F S512x512 .bf16) (x10 : Vec F S512x512 .bf16) (x11 : Vec F S512x2048 .bf16) (x12 : Vec F S512x2048 .bf16) (x13 : Vec F S1x2048 .f32) (x14 : Vec F S1x1x512 .f32) (x15 : Vec F S512x3 .f32) (x16 : Vec F S1x3 .f32) :
    { L17 : List (View.Piece (Elt F) S16x3 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ f, arg18.view.loc (c : Thread nD τ) ↦[arg18.view.set]{fullShare} arg18.view.writes (Elt F) f L17) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)) -∗ K ⟨⟩))
          ⊢ wp frame (wpE (defs₀ (F := F)) Variants.none c none) E (cc0_match_lstm i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, fun E K => ?run⟩
  case run =>
    simp only [cc0_match_lstm_eq_skeleton]; unfold cc0_match_lstm_skel
    simp only [k0_part19_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]; · iexists _; iexact H17
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _, _; isplitr; swap; · iexact HS6
    ipureintro; rfl

end Cert.KernelIdeal.Gen

end
-- ==== Proof.KernelIdealFrame.lean ====
module

public import proofs.«01_k».proof.Proof.KernelIdealRun
public import Idealize.ShloMosaic.Lib.Claim

/-! The frame claim of program `KernelIdeal`: the launch of the kernel over its grid, from one run of its body. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The stores of one run cover the whole output block. -/
theorem cover0_A_17 (c : Dev nD) (i : grid0.Coords) (arg1 : Memref sig .tc .vmem S16x128x300 .bf16) (harg1 : arg1.IsWhole) (arg2 : Memref sig .tc .vmem S128x16x300 .bf16) (harg2 : arg2.IsWhole) (arg3 : Memref sig .tc .vmem S1x16x1 .i32) (harg3 : arg3.IsWhole) (arg4 : Memref sig .tc .vmem S1x16x1 .i32) (harg4 : arg4.IsWhole) (arg5 : Memref sig .tc .vmem S300x2048 .bf16) (harg5 : arg5.IsWhole) (arg6 : Memref sig .tc .vmem S1x2048 .f32) (harg6 : arg6.IsWhole) (arg7 : Memref sig .tc .vmem S300x2048 .bf16) (harg7 : arg7.IsWhole) (arg8 : Memref sig .tc .vmem S1x2048 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x2048 .bf16) (harg12 : arg12.IsWhole) (arg13 : Memref sig .tc .vmem S512x2048 .bf16) (harg13 : arg13.IsWhole) (arg14 : Memref sig .tc .vmem S1x2048 .f32) (harg14 : arg14.IsWhole) (arg15 : Memref sig .tc .vmem S1x1x512 .f32) (harg15 : arg15.IsWhole) (arg16 : Memref sig .tc .vmem S512x3 .f32) (harg16 : arg16.IsWhole) (arg17 : Memref sig .tc .vmem S1x3 .f32) (harg17 : arg17.IsWhole) (arg18 : Memref sig .tc .vmem S16x3 .f32) (harg18 : arg18.IsWhole) (arg19 : Memref sig .tc .vmem S2048x512 .bf16) (harg19 : arg19.IsWhole) (arg20 : Memref sig .tc .vmem S16x128x512 .f32) (harg20 : arg20.IsWhole) (arg21 : Memref sig .tc .vmem S128x16x2048 .bf16) (harg21 : arg21.IsWhole) (arg22 : Memref sig .tc .vmem S128x16x512 .f32) (harg22 : arg22.IsWhole) (arg23 : Memref sig .tc .vmem S16x128 .f32) (harg23 : arg23.IsWhole) (arg24 : Memref sig .tc .vmem S128x16x1 .f32) (harg24 : arg24.IsWhole) (arg25 : Memref sig .tc .vmem S16x2048 .bf16) (harg25 : arg25.IsWhole)
    (x0 : Vec F S16x128x300 .bf16) (x1 : Vec F S128x16x300 .bf16) (x2 : Vec F S1x16x1 .i32) (x3 : Vec F S1x16x1 .i32) (x4 : Vec F S300x2048 .bf16) (x5 : Vec F S1x2048 .f32) (x6 : Vec F S300x2048 .bf16) (x7 : Vec F S1x2048 .f32) (x8 : Vec F S512x512 .bf16) (x9 : Vec F S512x512 .bf16) (x10 : Vec F S512x512 .bf16) (x11 : Vec F S512x2048 .bf16) (x12 : Vec F S512x2048 .bf16) (x13 : Vec F S1x2048 .f32) (x14 : Vec F S1x1x512 .f32) (x15 : Vec F S512x3 .f32) (x16 : Vec F S1x3 .f32) (y : S16x3.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16).1 S16x3.size (by sl_kernel_rfl) y

/-- What one run leaves in the output block. -/
def out0_A_17 (c : Dev nD) (i : grid0.Coords) (arg1 : Memref sig .tc .vmem S16x128x300 .bf16) (harg1 : arg1.IsWhole) (arg2 : Memref sig .tc .vmem S128x16x300 .bf16) (harg2 : arg2.IsWhole) (arg3 : Memref sig .tc .vmem S1x16x1 .i32) (harg3 : arg3.IsWhole) (arg4 : Memref sig .tc .vmem S1x16x1 .i32) (harg4 : arg4.IsWhole) (arg5 : Memref sig .tc .vmem S300x2048 .bf16) (harg5 : arg5.IsWhole) (arg6 : Memref sig .tc .vmem S1x2048 .f32) (harg6 : arg6.IsWhole) (arg7 : Memref sig .tc .vmem S300x2048 .bf16) (harg7 : arg7.IsWhole) (arg8 : Memref sig .tc .vmem S1x2048 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x2048 .bf16) (harg12 : arg12.IsWhole) (arg13 : Memref sig .tc .vmem S512x2048 .bf16) (harg13 : arg13.IsWhole) (arg14 : Memref sig .tc .vmem S1x2048 .f32) (harg14 : arg14.IsWhole) (arg15 : Memref sig .tc .vmem S1x1x512 .f32) (harg15 : arg15.IsWhole) (arg16 : Memref sig .tc .vmem S512x3 .f32) (harg16 : arg16.IsWhole) (arg17 : Memref sig .tc .vmem S1x3 .f32) (harg17 : arg17.IsWhole) (arg18 : Memref sig .tc .vmem S16x3 .f32) (harg18 : arg18.IsWhole) (arg19 : Memref sig .tc .vmem S2048x512 .bf16) (harg19 : arg19.IsWhole) (arg20 : Memref sig .tc .vmem S16x128x512 .f32) (harg20 : arg20.IsWhole) (arg21 : Memref sig .tc .vmem S128x16x2048 .bf16) (harg21 : arg21.IsWhole) (arg22 : Memref sig .tc .vmem S128x16x512 .f32) (harg22 : arg22.IsWhole) (arg23 : Memref sig .tc .vmem S16x128 .f32) (harg23 : arg23.IsWhole) (arg24 : Memref sig .tc .vmem S128x16x1 .f32) (harg24 : arg24.IsWhole) (arg25 : Memref sig .tc .vmem S16x2048 .bf16) (harg25 : arg25.IsWhole)
    (x0 : Vec F S16x128x300 .bf16) (x1 : Vec F S128x16x300 .bf16) (x2 : Vec F S1x16x1 .i32) (x3 : Vec F S1x16x1 .i32) (x4 : Vec F S300x2048 .bf16) (x5 : Vec F S1x2048 .f32) (x6 : Vec F S300x2048 .bf16) (x7 : Vec F S1x2048 .f32) (x8 : Vec F S512x512 .bf16) (x9 : Vec F S512x512 .bf16) (x10 : Vec F S512x512 .bf16) (x11 : Vec F S512x2048 .bf16) (x12 : Vec F S512x2048 .bf16) (x13 : Vec F S1x2048 .f32) (x14 : Vec F S1x1x512 .f32) (x15 : Vec F S512x3 .f32) (x16 : Vec F S1x3 .f32) : Vec F S16x3 .f32 :=
  VO0_17.read (Elt F) (VO0_17.writes (Elt F) VO0_17.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16).1)

/-- The output block after grid point `t`. -/
def outsAt0 (c : Dev nD) (t : Fin cfg0.N) : Vec F S16x3 .f32 :=
  out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)

/-- The proof data of the launch: the arrays at entry, the buffers after each grid point, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => (outsAt0 m c t)
    | ⟨_ + 18, h⟩ => absurd h (Nat.not_lt.2 (Nat.le_add_left _ _))
  Φ _ := Pipeline.ΦA spec0 c
  q _ := fullShare
  owed _ := 0

/-- The arrays of the proof data are the contents at entry. -/
theorem A_eq (c : Dev nD) (w : Fin cfg0.W) : (dats m 0 c).A w = V m c (Pipeline.arrRef spec0 w) := by
  dsimp only [dats]

/-- What the body leaves in each window's buffer, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = (outsAt0 m c t) := by dsimp only [dats]

/-- Each input buffer holds its block before the body runs. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t))

set_option maxHeartbeats 2400000 in
/-- The body at any grid point takes its precondition to its postcondition. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17]
  rw [show (dats m 0 c).Φ t.castSucc = Pipeline.ΦA spec0 c from rfl, PhiA0_eq]
  unfold outsAt0
  unfold out0_A_17
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, H10, H11, H12, H13, H14, H15, H16, ⟨%e17, H17⟩, HS0, HS1, HS2, HS3, HS4, HS5, HS6⟩
  isplitl [HS0 HS1 HS2 HS3 HS4 HS5 HS6 Hg]
  · isplitl [HS0 HS1 HS2 HS3 HS4 HS5 HS6]
    · isplitl [HS0]
      · iexact HS0
      isplitl [HS1]
      · iexact HS1
      isplitl [HS2]
      · iexact HS2
      isplitl [HS3]
      · iexact HS3
      isplitl [HS4]
      · iexact HS4
      isplitl [HS5]
      · iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  unfold owns; iexists _; isplitr
  swap; · iexact H17
  ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body called at point `t` is the kernel body on that point's buffers. -/
theorem defs₀_row (t : Fin cfg0.N) :
    defs₀ (F := F) .tc cfg0.body (cfg0.bodyArgs t (cfg0.slots t)) = bodyAt0 t := by
  unfold defs₀; rw [Defs.onTc_tc]

/-- The obligation of the launch, at every grid point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl
set_option backward.isDefEq.respectTransparency.types false in
/-- The whole program runs to the end, its arrays as the proof data say, with every semaphore counter back at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The whole program runs to the end with its arrays as the proof data say. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

/-- The frame claim: the program runs to the end with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  θ_run_and (unchanged m ρ) ((θ_run defs _ _).mono (fun _ h => h.2) (run_main_quiescent m ρ))

end Cert.KernelIdeal.Gen

end
-- ==== Proof.KernelIdealBlocks.lean ====
module

public import proofs.«01_k».proof.Proof.KernelIdealFrame
public import Idealize.ShloMosaic.Lib.Pipeline.Value

/-! The output array of program `KernelIdeal` after the run, block by block. -/

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- What grid point `t` writes back to the output array is the block it computed. -/
theorem flushed17 (c : Dev nD) (t : Fin cfg0.N) :
    (dats m 0 c).flushed 17 t = (cfg0.win 17).cut (grid0.coords t) (outsAt0 m c t) := by
  show (cfg0.win 17).cut (grid0.coords t) ((dats m 0 c).after 17 t) = _
  rw [after0_17]

/-- The block written back, spelled at the point's buffers and input blocks. -/
theorem flushed17_A (c : Dev nD) (t : Fin cfg0.N) :
    (dats m 0 c).flushed 17 t = (cfg0.win 17).cut (grid0.coords t) (out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  simp only [flushed17, outsAt0]

/-- Distinct grid points write distinct blocks. -/
theorem idx_inj17 : ∀ t t' : Fin cfg0.N, win0_17.index t = win0_17.index t' → t = t' :=
  (by decide +kernel : ∀ t t' : Fin grid0.N, win0_17.index t = win0_17.index t' → t = t')

/-- Blocks of distinct grid points share no entry. -/
theorem disjoint17 : ∀ t t' : Fin cfg0.N, (cfg0.win 17).flush t = true → (cfg0.win 17).flush t' = true → t ≠ t' →
    Disjoint ((cfg0.win 17).blk t).view.set ((cfg0.win 17).blk t').view.set :=
  fun t t' _ _ hne => (cfg0.win 17).disjoint_blk fun h => hne (idx_inj17 t t' h)

/-- Block `t` of the final output array is what grid point `t` wrote. -/
theorem blocks17 (c : Dev nD) (t : Fin cfg0.N) (hf : (cfg0.win 17).flush t = true) :
    ((cfg0.win 17).blk t).view.read (Elt F) ((dats m 0 c).arrAt 17 cfg0.N) = (dats m 0 c).flushed 17 t :=
  (dats m 0 c).read_blk_arrAt_eq_flushed 17 disjoint17 cfg0.N t t.isLt hf

/-- An entry that no block covers keeps its contents. -/
theorem entry17 (c : Dev nD) (i : S64x3.Idx) (h : ∀ t : Fin cfg0.N, (cfg0.win 17).flush t = true → i ∉ ((cfg0.win 17).blk t).view.set) :
    (dats m 0 c).arrAt 17 cfg0.N i = V m c (Pipeline.arrRef spec0 17) i := by
  rw [(dats m 0 c).arrAt_apply_of_forall_not_mem 17 cfg0.N i (fun t _ hf => h t hf), A_eq]

/-- After the run the output array is the one the proof data compute. -/
theorem post17 (r : PUnit × MemSt nD τ sig (Elt F)) (h : Pipeline.FramePost cfgs (dats m) 0 (V m) r) (c : Dev nD) :
    r.2.mem ((c : Thread nD τ).loc main_v41) = (dats m 0 c).arrAt 17 cfg0.N :=
  (h c).1 17

/-- Argument `main_arg0` ends as launched. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- Argument `main_arg1` ends as launched. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- Argument `main_arg2` ends as launched. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- Argument `main_arg3` ends as launched. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- Argument `main_arg4` ends as launched. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- Argument `main_arg5` ends as launched. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- Argument `main_arg6` ends as launched. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- Argument `main_arg7` ends as launched. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- Argument `main_arg8` ends as launched. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- Argument `main_arg9` ends as launched. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- Argument `main_arg10` ends as launched. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- Argument `main_arg11` ends as launched. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- Argument `main_arg12` ends as launched. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- Argument `main_arg13` ends as launched. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

/-- Argument `main_arg14` ends as launched. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

/-- Argument `main_arg15` ends as launched. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)

/-- Argument `main_arg16` ends as launched. -/
theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).2 main_arg16 (Pipeline.mem_restRefs_of main_arg16 (by decide) (by decide))).trans (V_main_arg16 m c)

/-- The whole program runs to the end, the output array is the one the proof data compute, and the arguments are unchanged. -/
theorem run_blocks : θ_run defs (onTc (τ := τ) (main (F := F))) ⟨m, fun _ => 0, ρ⟩ fun r => ∀ c : Dev nD,
      r.2.mem ((c : Thread nD τ).loc main_v41) = (dats m 0 c).arrAt 17 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  (θ_run defs _ _).mono (fun r h c => ⟨post17 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c⟩)
    (run_main m ρ)

end Cert.KernelIdeal.Value

end
-- ==== Proof.Spec.lean ====
module

public import Idealize.ShloMosaic.Lib.Pointwise

/-!
# The match network in plain mathematics

One batch row of the network, over the extended reals: two encoders whose cells start from the zero state, an attention
over the premise at each hypothesis position, a match cell, and the log-softmax of three logits. The weights are held
with the input coordinate first. Both programs are shown to compute `out`.
-/

@[expose] public section

noncomputable section

open Idealize.ShloMosaic

namespace Cert.Net

/-- The weights of the network. -/
structure Weights where
  /-- premise encoder, input by gate -/
  wp : Fin 300 → Fin 2048 → EReal
  /-- premise encoder, bias -/
  bp : Fin 2048 → EReal
  /-- hypothesis encoder, input by gate -/
  wh : Fin 300 → Fin 2048 → EReal
  /-- hypothesis encoder, bias -/
  bh : Fin 2048 → EReal
  /-- projection of the premise's hidden vectors -/
  ws : Fin 512 → Fin 512 → EReal
  /-- projection of the hypothesis's hidden vectors -/
  wt : Fin 512 → Fin 512 → EReal
  /-- projection of the match state -/
  wm : Fin 512 → Fin 512 → EReal
  /-- match cell, the half that reads the attended premise -/
  wa : Fin 512 → Fin 2048 → EReal
  /-- match cell, the half that reads the hypothesis -/
  wb : Fin 512 → Fin 2048 → EReal
  /-- match cell, bias -/
  bm : Fin 2048 → EReal
  /-- attention vector -/
  we : Fin 512 → EReal
  /-- output layer -/
  fw : Fin 512 → Fin 3 → EReal
  /-- output layer, bias -/
  fb : Fin 3 → EReal

/-- One batch row: its embedded words and its two lengths. -/
structure Row where
  /-- premise, position by embedding -/
  prem : Fin 128 → Fin 300 → EReal
  /-- hypothesis, position by embedding -/
  hyp : Fin 128 → Fin 300 → EReal
  /-- premise length -/
  pl : BitVec 32
  /-- hypothesis length -/
  hl : BitVec 32

/-- Gate coordinate `o + n` for a hidden coordinate `n`. -/
abbrev gate (o : Nat) (n : Fin 512) (h : o + 512 ≤ 2048 := by decide) : Fin 2048 := ⟨o + n.val, by omega⟩

/-- A cell that starts from the zero state: output gate times `tanh` of input gate times candidate. -/
def cell (g : Fin 2048 → EReal) (n : Fin 512) : EReal :=
  Ideal.logistic (g (gate 1536 n)) * Ideal.tanh (Ideal.logistic (g (gate 0 n)) * Ideal.tanh (g (gate 1024 n)))

/-- An encoder's hidden vector of one embedded word. -/
def enc (x : Fin 300 → EReal) (w : Fin 300 → Fin 2048 → EReal) (b : Fin 2048 → EReal) : Fin 512 → EReal :=
  cell fun g => ∑ e, x e * w e g + b g

/-- The greatest of finitely many numbers, from minus infinity. -/
def top {n : Nat} (e : Fin n → EReal) : EReal :=
  Finset.univ.fold max (Ideal.ofBits .f32 0xFF800000#32) e

/-- Softmax of a vector, shifted by its greatest entry. -/
def weight {n : Nat} (e : Fin n → EReal) (s : Fin n) : EReal :=
  Ideal.div (Ideal.exp (e s - top e)) (∑ x, Ideal.exp (e x - top e))

/-- Attention scores of the positions, masked past the length. -/
def score (l : BitVec 32) (sp : Fin 128 → Fin 512 → EReal) (q we : Fin 512 → EReal) (s : Fin 128) : EReal :=
  if (BitVec.ofNat 32 s.val).slt l then ∑ x, Ideal.tanh (sp s x + q x) * we x
  else Ideal.ofBits .f32 0xCE6E6B28#32

variable (W : Weights) (r : Row)

/-- Premise hidden vectors. -/
def hs (s : Fin 128) : Fin 512 → EReal := enc (r.prem s) W.wp W.bp

/-- Hypothesis hidden vectors. -/
def ht (t : Fin 128) : Fin 512 → EReal := enc (r.hyp t) W.wh W.bh

/-- Premise projections. -/
def sp (s : Fin 128) (n : Fin 512) : EReal := ∑ x, hs W r s x * W.ws x n

/-- Hypothesis projections. -/
def tp (t : Fin 128) (n : Fin 512) : EReal := ∑ x, ht W r t x * W.wt x n

/-- The hypothesis's share of the match cell's gates. -/
def gh (t : Fin 128) (g : Fin 2048) : EReal := ∑ x, ht W r t x * W.wb x g + W.bm g

/-- Attention weights over the premise at hypothesis position `t`, the match state being `h`. -/
def attn (t : Fin 128) (h : Fin 512 → EReal) : Fin 128 → EReal :=
  weight (score r.pl (sp W r) (fun n => tp W r t n + ∑ x, h x * W.wm x n) W.we)

/-- The attended premise. -/
def ctx (t : Fin 128) (h : Fin 512 → EReal) (n : Fin 512) : EReal := ∑ s, attn W r t h s * hs W r s n

/-- The match cell's gates. -/
def gates (t : Fin 128) (h : Fin 512 → EReal) (g : Fin 2048) : EReal :=
  ∑ x, ctx W r t h x * W.wa x g + gh W r t g

/-- One step of the match state; it stays as it is past the hypothesis's length. -/
def step (t : Fin 128) (h : Fin 512 → EReal) (n : Fin 512) : EReal :=
  if (BitVec.ofNat 32 t.val).slt r.hl then cell (gates W r t h) n else h n

/-- The match state after `k` steps. -/
def state : Nat → Fin 512 → EReal
  | 0 => fun _ => 0
  | k + 1 => if hk : k < 128 then step W r ⟨k, hk⟩ (state k) else state k

/-- The three logits of a match state. -/
def logit (h : Fin 512 → EReal) (n : Fin 3) : EReal := ∑ x, h x * W.fw x n + W.fb n

/-- Log-softmax of a vector. -/
def logWeight {n : Nat} (e : Fin n → EReal) (s : Fin n) : EReal :=
  e s - top e - Ideal.log (∑ x, Ideal.exp (e x - top e))

/-- What the network says of the row. -/
def out : Fin 3 → EReal := logWeight (logit W (state W r 128))

theorem state_succ (k : Fin 128) : state W r (k.val + 1) = step W r k (state W r k.val) := by
  rw [state, dif_pos k.isLt]

/-- Starting a greatest-of from a number already counted in changes nothing. -/
theorem max_top {n : Nat} (e : Fin n → EReal) : max (Ideal.ofBits .f32 0xFF800000#32) (top e) = top e :=
  max_eq_right ((Finset.le_fold_max _).2 (.inl le_rfl))

/-- The sum over the block-diagonal columns of row `a` is the sum over its own block. -/
theorem sum_blockDiag (a : Fin 16) (f : Fin 128 → EReal) (v : Fin 2048 → EReal) :
    ∑ q : Fin 2048, f ⟨q.val % 128, Nat.mod_lt _ (by decide)⟩ * (if q.val / 128 = a.val then 1 else 0) * v q
      = ∑ s : Fin 128, f s * v ⟨a.val * 128 + s.val, by omega⟩ := by
  symm
  refine Finset.sum_of_injOn (fun s : Fin 128 => (⟨a.val * 128 + s.val, by omega⟩ : Fin 2048)) ?_ ?_ ?_ ?_
  · intro x _ y _ h
    simp only [Fin.mk.injEq] at h
    exact Fin.ext (by omega)
  · intro x _; simp
  · intro q _ hq
    have : ¬ q.val / 128 = a.val := fun h => hq ⟨⟨q.val % 128, Nat.mod_lt _ (by decide)⟩, by simp, Fin.ext (by simp only; omega)⟩
    rw [if_neg this, mul_zero, zero_mul]
  · intro s _
    have h1 : (a.val * 128 + s.val) / 128 = a.val := by omega
    have h2 : (⟨(a.val * 128 + s.val) % 128, Nat.mod_lt _ (by decide)⟩ : Fin 128) = s := Fin.ext (by simp only; omega)
    simp only [h1, if_true, mul_one]
    rw [h2]

end Cert.Net
-- ==== Proof.Inputs.lean ====
module

public import proofs.«01_k».proof.Proof.Spec

/-!
# The network's inputs out of the argument arrays

The weights as the arguments hold them (output coordinate first, the match cell's two halves side by side), and the rows
of the embedded batch.
-/

@[expose] public section

noncomputable section

open Idealize.ShloMosaic

namespace Cert.Net

/-- The weights, out of the argument arrays. -/
def weightsOf (we : (⟨1, ![512]⟩ : Shape).Idx → EReal) (ws wt wm : (⟨2, ![512, 512]⟩ : Shape).Idx → EReal)
    (wp : (⟨2, ![2048, 300]⟩ : Shape).Idx → EReal) (bp : (⟨1, ![2048]⟩ : Shape).Idx → EReal)
    (wh : (⟨2, ![2048, 300]⟩ : Shape).Idx → EReal) (bh : (⟨1, ![2048]⟩ : Shape).Idx → EReal)
    (wq : (⟨2, ![2048, 1024]⟩ : Shape).Idx → EReal) (bm : (⟨1, ![2048]⟩ : Shape).Idx → EReal)
    (fw : (⟨2, ![3, 512]⟩ : Shape).Idx → EReal) (fb : (⟨1, ![3]⟩ : Shape).Idx → EReal) : Weights where
  wp e g := wp (ix2 g e)
  bp g := bp (ix1 g)
  wh e g := wh (ix2 g e)
  bh g := bh (ix1 g)
  ws y n := ws (ix2 n y)
  wt y n := wt (ix2 n y)
  wm y n := wm (ix2 n y)
  wa y g := wq (ix2 g ⟨y.val, by omega⟩)
  wb y g := wq (ix2 g ⟨512 + y.val, by omega⟩)
  bm g := bm (ix1 g)
  we x := we (ix1 x)
  fw y n := fw (ix2 n y)
  fb n := fb (ix1 n)

/-- Row `b` of the batch, out of the embedded words and the lengths. -/
def rowOf (prem hyp : (⟨3, ![64, 128, 300]⟩ : Shape).Idx → EReal) (pl hl : (⟨1, ![64]⟩ : Shape).Idx → BitVec 32)
    (b : Fin 64) : Row where
  prem s e := prem (ix3 b s e)
  hyp s e := hyp (ix3 b s e)
  pl := pl (ix1 b)
  hl := hl (ix1 b)

end Cert.Net
-- ==== Proof.KernelIdealInputs.lean ====
module
public import proofs.«01_k».proof.Proof.KernelIdealBlocks
public import proofs.«01_k».proof.Proof.Spec
public import Idealize.ShloMosaic.Lib.Pipeline.ValueKit
public import Idealize.ShloMosaic.Lib.Pointwise
public import Idealize.ShloMosaic.Lib.Pipeline.ReadBack

/-! The input blocks of a grid point, read off the argument arrays. -/

@[expose] public section

set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen

variable (m : (ℓ : Loc nD τ sig) → Buf (Elt Ideal) ℓ) (c : Dev nD)

/-- Where each input block of grid point `t` lies. -/
theorem idx : ∀ t : Fin cfg0.N, win0_0.index t = ![t.val, 0, 0] ∧ win0_1.index t = ![0, t.val, 0] ∧ win0_2.index t = ![t.val, 0, 0] ∧ win0_3.index t = ![t.val, 0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0, 0] ∧ win0_15.index t = ![0, 0] ∧ win0_16.index t = ![0, 0] :=
  (by decide +kernel : ∀ t : Fin grid0.N, win0_0.index t = ![t.val, 0, 0] ∧ win0_1.index t = ![0, t.val, 0] ∧ win0_2.index t = ![t.val, 0, 0] ∧ win0_3.index t = ![t.val, 0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0, 0] ∧ win0_15.index t = ![0, 0] ∧ win0_16.index t = ![0, 0])

/-- The embedded words of a batch of word numbers. -/
def embedded (a : (⟨2, ![64, 128]⟩ : Shape).Idx → BitVec 32) : FVec Ideal S64x128x300 .f32 :=
  Host.gather gather_S32000x300_S64x128x1_S64x128x300_2_0_n_n_0_2_1300 (m ((c : Thread nD τ).loc main_arg4))
    (broadcastInDim S64x128x1 ![0, 1] bcast_S64x128_S64x128x1_0_1
      (select (cmpi CmpIPredicate.slt a (broadcastInDim S64x128 ![] bcast_S_S64x128 (constantI S_ 32 0#32)))
        (addi a (broadcastInDim S64x128 ![] bcast_S_S64x128 (constantI S_ 32 32000#32))) a))

/-- Premise words of the rows of point `t`. -/
theorem block0 (t : Fin cfg0.N) (a : Fin 16) (s : Fin 128) (e : Fin 300) :
    (iblk m c 0 t : Vec Ideal S16x128x300 .bf16) (ix3 a s e) = embedded m c (m ((c : Thread nD τ).loc main_arg0)) (ix3 ⟨16 * t.val + a.val, by have : t.val < 4 := t.isLt; omega⟩ s e) := by
  blk_point [iblk, V, idx t]

/-- A block of an array with positions in front is that array at the rows of the point. -/
theorem read1 (B : Vec Ideal S128x64x300 .bf16) (t : Fin cfg0.N) (a : Fin 16) (s : Fin 128) (e : Fin 300) :
    View.read (Elt Ideal) ((View.whole main_v16).slice ((win0 1).rect t)) B (ix3 s a e)
      = B (ix3 s ⟨16 * t.val + a.val, by have : t.val < 4 := t.isLt; omega⟩ e) := by
  blk_ext [idx t]

/-- Positions in front, read with rows in front. -/
theorem swap1 (A : FVec Ideal S64x128x300 .f32) (b : Fin 64) (s : Fin 128) (e : Fin 300) :
    truncf FTy.bf16 (transpose S128x64x300 [1, 0, 2] A transposes_S64x128x300_S128x64x300_1_0_2) bitsLt_bf16_f32
      (ix3 s b e) = A (ix3 b s e) := by
  pointwise

/-- Hypothesis words of the rows of point `t`. -/
theorem block1 (t : Fin cfg0.N) (a : Fin 16) (s : Fin 128) (e : Fin 300) :
    (iblk m c 1 t : Vec Ideal S128x16x300 .bf16) (ix3 s a e) = embedded m c (m ((c : Thread nD τ).loc main_arg2)) (ix3 ⟨16 * t.val + a.val, by have : t.val < 4 := t.isLt; omega⟩ s e) := by
  simp only [iblk, V]
  entry_read
  exact (read1 _ t a s e).trans (swap1 _ _ s e)

/-- Premise lengths. -/
theorem block2 (t : Fin cfg0.N) (a : Fin 16) :
    (iblk m c 2 t : Vec Ideal S1x16x1 .i32) (ix3 0 a 0) = m ((c : Thread nD τ).loc main_arg1) (ix1 ⟨16 * t.val + a.val, by have : t.val < 4 := t.isLt; omega⟩) := by
  blk_point [iblk, V, idx t]

/-- Hypothesis lengths. -/
theorem block3 (t : Fin cfg0.N) (a : Fin 16) :
    (iblk m c 3 t : Vec Ideal S1x16x1 .i32) (ix3 0 a 0) = m ((c : Thread nD τ).loc main_arg3) (ix1 ⟨16 * t.val + a.val, by have : t.val < 4 := t.isLt; omega⟩) := by
  blk_point [iblk, V, idx t]

/-- Premise encoder weights. -/
theorem block4 (t : Fin cfg0.N) (e : Fin 300) (g : Fin 2048) :
    (iblk m c 4 t : Vec Ideal S300x2048 .bf16) (ix2 e g) = m ((c : Thread nD τ).loc main_arg9) (ix2 g e) := by
  blk_point [iblk, V, idx t]

/-- Premise encoder bias. -/
theorem block5 (t : Fin cfg0.N) (g : Fin 2048) :
    (iblk m c 5 t : Vec Ideal S1x2048 .f32) (ix2 0 g) = m ((c : Thread nD τ).loc main_arg10) (ix1 g) := by
  blk_point [iblk, V, idx t]

/-- Hypothesis encoder weights. -/
theorem block6 (t : Fin cfg0.N) (e : Fin 300) (g : Fin 2048) :
    (iblk m c 6 t : Vec Ideal S300x2048 .bf16) (ix2 e g) = m ((c : Thread nD τ).loc main_arg11) (ix2 g e) := by
  blk_point [iblk, V, idx t]

/-- Hypothesis encoder bias. -/
theorem block7 (t : Fin cfg0.N) (g : Fin 2048) :
    (iblk m c 7 t : Vec Ideal S1x2048 .f32) (ix2 0 g) = m ((c : Thread nD τ).loc main_arg12) (ix1 g) := by
  blk_point [iblk, V, idx t]

/-- Premise projection. -/
theorem block8 (t : Fin cfg0.N) (y n : Fin 512) :
    (iblk m c 8 t : Vec Ideal S512x512 .bf16) (ix2 y n) = m ((c : Thread nD τ).loc main_arg6) (ix2 n y) := by
  blk_point [iblk, V, idx t]

/-- Hypothesis projection. -/
theorem block9 (t : Fin cfg0.N) (y n : Fin 512) :
    (iblk m c 9 t : Vec Ideal S512x512 .bf16) (ix2 y n) = m ((c : Thread nD τ).loc main_arg7) (ix2 n y) := by
  blk_point [iblk, V, idx t]

/-- State projection. -/
theorem block10 (t : Fin cfg0.N) (y n : Fin 512) :
    (iblk m c 10 t : Vec Ideal S512x512 .bf16) (ix2 y n) = m ((c : Thread nD τ).loc main_arg8) (ix2 n y) := by
  blk_point [iblk, V, idx t]

/-- Match cell, the attended half. -/
theorem block11 (t : Fin cfg0.N) (y : Fin 512) (g : Fin 2048) :
    (iblk m c 11 t : Vec Ideal S512x2048 .bf16) (ix2 y g) = m ((c : Thread nD τ).loc main_arg13) (ix2 g ⟨y.val, by omega⟩) := by
  blk_point [iblk, V, idx t]

/-- Match cell, the hypothesis half. -/
theorem block12 (t : Fin cfg0.N) (y : Fin 512) (g : Fin 2048) :
    (iblk m c 12 t : Vec Ideal S512x2048 .bf16) (ix2 y g) = m ((c : Thread nD τ).loc main_arg13) (ix2 g ⟨512 + y.val, by omega⟩) := by
  blk_point [iblk, V, idx t]

/-- Match cell bias. -/
theorem block13 (t : Fin cfg0.N) (g : Fin 2048) :
    (iblk m c 13 t : Vec Ideal S1x2048 .f32) (ix2 0 g) = m ((c : Thread nD τ).loc main_arg14) (ix1 g) := by
  blk_point [iblk, V, idx t]

/-- Attention vector. -/
theorem block14 (t : Fin cfg0.N) (x : Fin 512) :
    (iblk m c 14 t : Vec Ideal S1x1x512 .f32) (ix3 0 0 x) = m ((c : Thread nD τ).loc main_arg5) (ix1 x) := by
  blk_point [iblk, V, idx t]

/-- Output weights. -/
theorem block15 (t : Fin cfg0.N) (y : Fin 512) (n : Fin 3) :
    (iblk m c 15 t : Vec Ideal S512x3 .f32) (ix2 y n) = m ((c : Thread nD τ).loc main_arg15) (ix2 n y) := by
  blk_point [iblk, V, idx t]

/-- Output bias. -/
theorem block16 (t : Fin cfg0.N) (n : Fin 3) :
    (iblk m c 16 t : Vec Ideal S1x3 .f32) (ix2 0 n) = m ((c : Thread nD τ).loc main_arg16) (ix1 n) := by
  blk_point [iblk, V, idx t]

end Cert.KernelIdeal.Value
-- ==== Proof.KernelIdealStep.lean ====
module
public import proofs.«01_k».proof.Proof.KernelIdealBlocks
public import proofs.«01_k».proof.Proof.Spec
public import Idealize.ShloMosaic.Lib.Pipeline.ValueKit
public import Idealize.ShloMosaic.Lib.Pointwise
public import Idealize.ShloMosaic.Lib.Pipeline.ReadBack

/-! One trip of the kernel's loop over the hypothesis positions, read at an index: one step of the match state. -/

@[expose] public section

set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen

/-- Sixteen copies of a tile side by side, read at a column: the tile at the column modulo 128. -/
theorem tile16 (v : FVec Ideal S16x128 .bf16) (h) :
    (concatenate S16x2048 1 [⟨S16x128, v⟩, ⟨S16x128, v⟩, ⟨S16x128, v⟩, ⟨S16x128, v⟩, ⟨S16x128, v⟩, ⟨S16x128, v⟩,
        ⟨S16x128, v⟩, ⟨S16x128, v⟩, ⟨S16x128, v⟩, ⟨S16x128, v⟩, ⟨S16x128, v⟩, ⟨S16x128, v⟩, ⟨S16x128, v⟩, ⟨S16x128, v⟩,
        ⟨S16x128, v⟩, ⟨S16x128, v⟩] h : FVec Ideal S16x2048 .bf16)
      = fun i => v (ix2 (n0 := 16) (n1 := 128) (i (0 : Fin 2)) ⟨(i (1 : Fin 2)).val % 128, Nat.mod_lt _ (by decide)⟩) := by
  funext i
  exact concatenate_replicate_apply (t := S16x2048) (s₁ := S16x128) (1 : Fin 2) 16 v h rfl i _ rfl
    (by intro b hb; fin_cases b; rfl; exact absurd rfl hb)

/-- Attention weights of the lower eight rows. -/
theorem lower_weights (h : FVec Ideal S16x512 .f32) (tp : Vec Ideal S1x16x512 .f32) (wm : Vec Ideal S512x512 .bf16)
    (sp : Vec Ideal S8x128x512 .f32) (we : Vec Ideal S1x1x512 .f32) (pm : Vec Ideal S8x128 .f32) (a : Fin 8) (s : Fin 128) :
    k0_pay3 h tp wm sp we pm (ix2 a s)
      = Net.weight (fun s => if 0 < pm (ix2 a s) then
            ∑ x, Ideal.tanh (sp (ix3 a s x) + (tp (ix3 0 ⟨a.val, by omega⟩ x) + ∑ y, h (ix2 ⟨a.val, by omega⟩ y) * wm (ix2 y x)))
              * we (ix3 0 0 x)
          else Ideal.ofBits .f32 0xCE6E6B28#32) s := by
  pointwise [k0_pay3, k0_pay2, Net.weight, Net.top]

/-- What the `tanh` of the upper eight rows' scores is taken of. -/
theorem upper_sums (h : FVec Ideal S16x512 .f32) (tp : Vec Ideal S1x16x512 .f32) (wm : Vec Ideal S512x512 .bf16)
    (sp : Vec Ideal S8x128x512 .f32) (a : Fin 8) (s : Fin 128) (x : Fin 512) :
    k0_pay4 h tp wm sp (ix3 a s x)
      = sp (ix3 a s x) + (tp (ix3 0 ⟨8 + a.val, by omega⟩ x) + ∑ y, h (ix2 ⟨8 + a.val, by omega⟩ y) * wm (ix2 y x)) := by
  pointwise [k0_pay4, k0_pay2]

/-- The match cell's gates from the attention weights of the lower rows and the scores of the upper rows. -/
theorem match_gates (lo : FVec Ideal S8x128 .f32) (up : FVec Ideal S8x128x512 .f32) (we : Vec Ideal S1x1x512 .f32)
    (pm : Vec Ideal S8x128 .f32) (bd : Vec Ideal S16x2048 .bf16) (hs : Vec Ideal S2048x512 .bf16)
    (wa : Vec Ideal S512x2048 .bf16) (gh : Vec Ideal S1x16x2048 .bf16) (a : Fin 16) (g : Fin 2048) :
    k0_pay5 lo up we pm bd hs wa gh (ix2 a g)
      = ∑ x, (∑ q : Fin 2048,
            (fun s => if h : a.val < 8 then lo (ix2 ⟨a.val, h⟩ s)
              else Net.weight (fun s => if 0 < pm (ix2 ⟨a.val - 8, by omega⟩ s) then
                  ∑ x, Ideal.tanh (up (ix3 ⟨a.val - 8, by omega⟩ s x)) * we (ix3 0 0 x)
                else Ideal.ofBits .f32 0xCE6E6B28#32) s) (⟨q.val % 128, Nat.mod_lt _ (by decide)⟩ : Fin 128)
              * bd (ix2 a q) * hs (ix2 q x)) * wa (ix2 x g) + gh (ix3 0 a g) := by
  unfold k0_pay5
  dsimp only
  rw [tile16]
  pointwise [Net.weight, Net.top]

/-- One trip: the match cell of the gates while the mask is on, else the state as it is. -/
theorem match_cell (h : FVec Ideal S16x512 .f32) (lo : FVec Ideal S8x128 .f32) (up : FVec Ideal S8x128x512 .f32)
    (we : Vec Ideal S1x1x512 .f32) (pm : Vec Ideal S8x128 .f32) (bd : Vec Ideal S16x2048 .bf16)
    (hs : Vec Ideal S2048x512 .bf16) (wa : Vec Ideal S512x2048 .bf16) (gh : Vec Ideal S1x16x2048 .bf16)
    (vm : Vec Ideal S1x16x1 .f32) (a : Fin 16) (n : Fin 512) :
    k0_pay87 h (k0_pay6 lo up we pm bd hs wa gh) (k0_pay7 lo up we pm bd hs wa gh) (k0_pay8 lo up we pm bd hs wa gh) vm
        (ix2 a n)
      = if 0 < vm (ix3 0 a 0) then Net.cell (fun g => k0_pay5 lo up we pm bd hs wa gh (ix2 a g)) n else h (ix2 a n) := by
  pointwise [k0_pay87, k0_pay6, k0_pay7, k0_pay8, Net.cell, Net.gate]

/-- One trip computes one step of the match state in every row, when what it loads is what the network calls for. -/
theorem trip_value (W : Net.Weights) (R : Fin 16 → Net.Row) (k : Fin 128) (H : Fin 16 → Fin 512 → EReal)
    (h : FVec Ideal S16x512 .f32) (tp : Vec Ideal S1x16x512 .f32) (wm : Vec Ideal S512x512 .bf16)
    (spLo spHi : Vec Ideal S8x128x512 .f32) (we : Vec Ideal S1x1x512 .f32) (pmLo pmHi : Vec Ideal S8x128 .f32)
    (bd : Vec Ideal S16x2048 .bf16) (hs : Vec Ideal S2048x512 .bf16) (wa : Vec Ideal S512x2048 .bf16)
    (gh : Vec Ideal S1x16x2048 .bf16) (vm : Vec Ideal S1x16x1 .f32)
    (h_h : ∀ a n, h (ix2 a n) = H a n)
    (h_tp : ∀ a n, tp (ix3 0 a n) = Net.tp W (R a) k n)
    (h_wm : ∀ y x, wm (ix2 y x) = W.wm y x)
    (h_spLo : ∀ (a : Fin 8) s x, spLo (ix3 a s x) = Net.sp W (R ⟨a.val, by omega⟩) s x)
    (h_spHi : ∀ (a : Fin 8) s x, spHi (ix3 a s x) = Net.sp W (R ⟨8 + a.val, by omega⟩) s x)
    (h_we : ∀ x, we (ix3 0 0 x) = W.we x)
    (h_pmLo : ∀ (a : Fin 8) (s : Fin 128),
      ((0 : EReal) < pmLo (ix2 a s)) ↔ (BitVec.ofNat 32 s.val).slt (R ⟨a.val, by omega⟩).pl = true)
    (h_pmHi : ∀ (a : Fin 8) (s : Fin 128),
      ((0 : EReal) < pmHi (ix2 a s)) ↔ (BitVec.ofNat 32 s.val).slt (R ⟨8 + a.val, by omega⟩).pl = true)
    (h_bd : ∀ (a : Fin 16) (q : Fin 2048), bd (ix2 a q) = if q.val / 128 = a.val then (1 : EReal) else 0)
    (h_hs : ∀ (q : Fin 2048) n, hs (ix2 q n) = Net.hs W (R ⟨q.val / 128, by omega⟩) ⟨q.val % 128, by omega⟩ n)
    (h_wa : ∀ x g, wa (ix2 x g) = W.wa x g)
    (h_gh : ∀ a g, gh (ix3 0 a g) = Net.gh W (R a) k g)
    (h_vm : ∀ a : Fin 16, ((0 : EReal) < vm (ix3 0 a 0)) ↔ (BitVec.ofNat 32 k.val).slt (R a).hl = true)
    (a : Fin 16) (n : Fin 512) :
    k0_pay87 h (k0_pay6 (k0_pay3 h tp wm spLo we pmLo) (k0_pay4 h tp wm spHi) we pmHi bd hs wa gh)
        (k0_pay7 (k0_pay3 h tp wm spLo we pmLo) (k0_pay4 h tp wm spHi) we pmHi bd hs wa gh)
        (k0_pay8 (k0_pay3 h tp wm spLo we pmLo) (k0_pay4 h tp wm spHi) we pmHi bd hs wa gh) vm (ix2 a n)
      = Net.step W (R a) k (H a) n := by
  have hw : ∀ s : Fin 128, (if ha : a.val < 8 then k0_pay3 h tp wm spLo we pmLo (ix2 ⟨a.val, ha⟩ s)
      else Net.weight (fun s => if 0 < pmHi (ix2 ⟨a.val - 8, by omega⟩ s) then
          ∑ x, Ideal.tanh (k0_pay4 h tp wm spHi (ix3 ⟨a.val - 8, by omega⟩ s x)) * we (ix3 0 0 x)
        else Ideal.ofBits .f32 0xCE6E6B28#32) s) = Net.attn W (R a) k (H a) s := by
    intro s
    by_cases ha : a.val < 8
    · rw [dif_pos ha, lower_weights]
      simp only [h_h, h_tp, h_wm, h_spLo, h_we, h_pmLo]
      rfl
    · have e : (⟨8 + (a.val - 8), by omega⟩ : Fin 16) = a := Fin.ext (by simp only; omega)
      rw [dif_neg ha]
      simp only [upper_sums, h_h, h_tp, h_wm, h_spHi, h_we, h_pmHi, e]
      rfl
  have hg : ∀ g : Fin 2048, k0_pay5 (k0_pay3 h tp wm spLo we pmLo) (k0_pay4 h tp wm spHi) we pmHi bd hs wa gh (ix2 a g)
      = Net.gates W (R a) k (H a) g := by
    intro g
    rw [match_gates]
    simp only [hw, h_bd, h_hs, h_wa, h_gh]
    unfold Net.gates
    refine congrArg (· + _) (Finset.sum_congr rfl fun x _ => congrArg (· * _) ?_)
    refine (Net.sum_blockDiag a (Net.attn W (R a) k (H a))
      (fun q => Net.hs W (R ⟨q.val / 128, by omega⟩) ⟨q.val % 128, by omega⟩ x)).trans ?_
    unfold Net.ctx
    refine Finset.sum_congr rfl fun s _ => ?_
    have e1 : (⟨(a.val * 128 + s.val) / 128, by omega⟩ : Fin 16) = a := Fin.ext (by simp only; omega)
    have e2 : (⟨(a.val * 128 + s.val) % 128, by omega⟩ : Fin 128) = s := Fin.ext (by simp only; omega)
    simp only [e1, e2]
  rw [match_cell]
  simp only [hg, h_vm, h_h]
  rfl

end Cert.KernelIdeal.Value
-- ==== Proof.KernelIdealLoop.lean ====
module
public import proofs.«01_k».proof.Proof.KernelIdealStep
public import proofs.«01_k».proof.Proof.Spec
public import Idealize.ShloMosaic.Lib.Pipeline.ValueKit
public import Idealize.ShloMosaic.Lib.Pointwise
public import Idealize.ShloMosaic.Lib.Pipeline.ReadBack

/-! The kernel's loop over the hypothesis positions carries the match state of every row of the block. -/

@[expose] public section

set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen

open Idealize.ShloMosaic.Pipeline

variable (c : Dev nD) (W : Net.Weights) (R : Fin 16 → Net.Row)

/-- The loop makes as many trips as the hypothesis has positions. -/
theorem trips_eq : k0_t1_loop.trips = 128 := by decide +kernel

/-- The trip's slab of the hypothesis projections. -/
theorem off1_eq (k : Fin k0_t1_loop.trips) : k0_off1 k = ![k.val, 0, 0] := by
  revert k; decide +kernel

/-- The trip's slab of the gates' shares. -/
theorem off2_eq (k : Fin k0_t1_loop.trips) : k0_off2 k = ![k.val, 0, 0] := by
  revert k; decide +kernel

/-- The trip's slab of the hypothesis mask. -/
theorem off3_eq (k : Fin k0_t1_loop.trips) : k0_off3 k = ![k.val, 0, 0] := by
  revert k; decide +kernel

/-- A load at a unit-stride rectangle reads the contents at the shifted index. -/
theorem readAt_at {κ : Kind} {sp : Space} {s : Shape} {e : EltTy} (v : View sig κ sp s e)
    (f : v.ty.Contents (Elt Ideal)) (off size : Fin s.rank → Nat) (inb) (x : (Rect.unit off size inb).shape.Idx)
    (i : s.Idx) (hi : ∀ a, (i a : Nat) = off a + x a) :
    View.readAt (Elt Ideal) v (Rect.unit off size inb).toLoadRect f x = v.read (Elt Ideal) f i :=
  View.ld_unit_apply_of (v.read (Elt Ideal) f) off size inb x i hi

/-- A trip whose scratch holds the row data computes one step of the match state in every row. -/
theorem trip_step (i : grid0.Coords) (arg1 : Memref sig .tc .vmem S16x128x300 .bf16) (harg1 : arg1.IsWhole)
    (arg2 : Memref sig .tc .vmem S128x16x300 .bf16) (harg2 : arg2.IsWhole) (arg3 : Memref sig .tc .vmem S1x16x1 .i32)
    (harg3 : arg3.IsWhole) (arg4 : Memref sig .tc .vmem S1x16x1 .i32) (harg4 : arg4.IsWhole)
    (arg5 : Memref sig .tc .vmem S300x2048 .bf16) (harg5 : arg5.IsWhole) (arg6 : Memref sig .tc .vmem S1x2048 .f32)
    (harg6 : arg6.IsWhole) (arg7 : Memref sig .tc .vmem S300x2048 .bf16) (harg7 : arg7.IsWhole)
    (arg8 : Memref sig .tc .vmem S1x2048 .f32) (harg8 : arg8.IsWhole) (arg9 : Memref sig .tc .vmem S512x512 .bf16)
    (harg9 : arg9.IsWhole) (arg10 : Memref sig .tc .vmem S512x512 .bf16) (harg10 : arg10.IsWhole)
    (arg11 : Memref sig .tc .vmem S512x512 .bf16) (harg11 : arg11.IsWhole)
    (arg12 : Memref sig .tc .vmem S512x2048 .bf16) (harg12 : arg12.IsWhole)
    (arg13 : Memref sig .tc .vmem S512x2048 .bf16) (harg13 : arg13.IsWhole)
    (arg14 : Memref sig .tc .vmem S1x2048 .f32) (harg14 : arg14.IsWhole) (arg15 : Memref sig .tc .vmem S1x1x512 .f32)
    (harg15 : arg15.IsWhole) (arg16 : Memref sig .tc .vmem S512x3 .f32) (harg16 : arg16.IsWhole)
    (arg17 : Memref sig .tc .vmem S1x3 .f32) (harg17 : arg17.IsWhole) (arg18 : Memref sig .tc .vmem S16x3 .f32)
    (harg18 : arg18.IsWhole) (arg19 : Memref sig .tc .vmem S2048x512 .bf16) (harg19 : arg19.IsWhole)
    (arg20 : Memref sig .tc .vmem S16x128x512 .f32) (harg20 : arg20.IsWhole)
    (arg21 : Memref sig .tc .vmem S128x16x2048 .bf16) (harg21 : arg21.IsWhole)
    (arg22 : Memref sig .tc .vmem S128x16x512 .f32) (harg22 : arg22.IsWhole)
    (arg23 : Memref sig .tc .vmem S16x128 .f32) (harg23 : arg23.IsWhole) (arg24 : Memref sig .tc .vmem S128x16x1 .f32)
    (harg24 : arg24.IsWhole) (arg25 : Memref sig .tc .vmem S16x2048 .bf16) (harg25 : arg25.IsWhole)
    (X_arg11 : BufTy.Contents (Elt Ideal) arg11.view.ty) (X_arg12 : BufTy.Contents (Elt Ideal) arg12.view.ty)
    (X_arg15 : BufTy.Contents (Elt Ideal) arg15.view.ty) (X_arg19 : BufTy.Contents (Elt Ideal) arg19.view.ty)
    (X_arg20 : BufTy.Contents (Elt Ideal) arg20.view.ty) (X_arg21 : BufTy.Contents (Elt Ideal) arg21.view.ty)
    (X_arg22 : BufTy.Contents (Elt Ideal) arg22.view.ty) (X_arg23 : BufTy.Contents (Elt Ideal) arg23.view.ty)
    (X_arg24 : BufTy.Contents (Elt Ideal) arg24.view.ty) (X_arg25 : BufTy.Contents (Elt Ideal) arg25.view.ty)
    (h_wm : ∀ y x, arg11.view.read (Elt Ideal) X_arg11 (ix2 y x) = W.wm y x)
    (h_wa : ∀ x g, arg12.view.read (Elt Ideal) X_arg12 (ix2 x g) = W.wa x g)
    (h_we : ∀ x, arg15.view.read (Elt Ideal) X_arg15 (ix3 0 0 x) = W.we x)
    (h_hs : ∀ (q : Fin 2048) n, arg19.view.read (Elt Ideal) X_arg19 (ix2 q n)
      = Net.hs W (R ⟨q.val / 128, by omega⟩) ⟨q.val % 128, by omega⟩ n)
    (h_sp : ∀ a s x, arg20.view.read (Elt Ideal) X_arg20 (ix3 a s x) = Net.sp W (R a) s x)
    (h_gh : ∀ t a g, arg21.view.read (Elt Ideal) X_arg21 (ix3 t a g) = Net.gh W (R a) t g)
    (h_tp : ∀ t a n, arg22.view.read (Elt Ideal) X_arg22 (ix3 t a n) = Net.tp W (R a) t n)
    (h_pm : ∀ (a : Fin 16) (s : Fin 128), ((0 : EReal) < arg23.view.read (Elt Ideal) X_arg23 (ix2 a s))
      ↔ (BitVec.ofNat 32 s.val).slt (R a).pl = true)
    (h_vm : ∀ (t : Fin 128) (a : Fin 16), ((0 : EReal) < arg24.view.read (Elt Ideal) X_arg24 (ix3 t a 0))
      ↔ (BitVec.ofNat 32 t.val).slt (R a).hl = true)
    (h_bd : ∀ (a : Fin 16) (q : Fin 2048), arg25.view.read (Elt Ideal) X_arg25 (ix2 a q)
      = if q.val / 128 = a.val then (1 : EReal) else 0)
    (k : Fin k0_t1_loop.trips) (acc : FVec Ideal S16x512 .f32) (H : Fin 16 → Fin 512 → EReal)
    (h_acc : ∀ a n, acc (ix2 a n) = H a n) (a : Fin 16) (n : Fin 512) :
    tripR_k0_t1 (F := Ideal) Variants.none c none
      i arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18 harg18
      arg19 harg19 arg20 harg20 arg21 harg21 arg22 harg22 arg23 harg23 arg24 harg24 arg25 harg25 X_arg11 X_arg12
      X_arg15 X_arg19 X_arg20 X_arg21 X_arg22 X_arg23 X_arg24 X_arg25 k acc (ix2 a n)
      = Net.step W (R a) (k.cast trips_eq) (H a) n := by
  unfold tripR_k0_t1 trip_k0_t1
  frame_open
  refine trip_value W R (k.cast trips_eq) H _ _ _ _ _ _ _ _ _ _ _ _ _ h_acc ?_ ?_ ?_ ?_ ?_ ?_ ?_ ?_ ?_ ?_ ?_ ?_ a n
  · intro a n
    rw [readAt_at _ _ _ _ _ _ (ix3 (k.cast trips_eq) a n) (by
      intro d; fin_cases d
      · show k.val = k0_off1 k 0 + 0; rw [off1_eq]; rfl
      · show a.val = k0_off1 k 1 + a.val; rw [off1_eq]; exact (Nat.zero_add _).symm
      · show n.val = k0_off1 k 2 + n.val; rw [off1_eq]; exact (Nat.zero_add _).symm)]
    exact h_tp _ a n
  · intro y x
    rw [readAt_at _ _ _ _ _ _ (ix2 y x) (by intro d; fin_cases d <;> exact (Nat.zero_add _).symm)]
    exact h_wm y x
  · intro a s x
    rw [readAt_at _ _ _ _ _ _ (ix3 ⟨a.val, by omega⟩ s x) (by intro d; fin_cases d <;> exact (Nat.zero_add _).symm)]
    exact h_sp _ s x
  · intro a s x
    rw [readAt_at _ _ _ _ _ _ (ix3 ⟨8 + a.val, by omega⟩ s x) (by
      intro d; fin_cases d
      · rfl
      · exact (Nat.zero_add _).symm
      · exact (Nat.zero_add _).symm)]
    exact h_sp _ s x
  · intro x
    rw [readAt_at _ _ _ _ _ _ (ix3 0 0 x) (by intro d; fin_cases d <;> exact (Nat.zero_add _).symm)]
    exact h_we x
  · intro a s
    rw [readAt_at _ _ _ _ _ _ (ix2 ⟨a.val, by omega⟩ s) (by intro d; fin_cases d <;> exact (Nat.zero_add _).symm)]
    exact h_pm _ s
  · intro a s
    rw [readAt_at _ _ _ _ _ _ (ix2 ⟨8 + a.val, by omega⟩ s) (by
      intro d; fin_cases d
      · rfl
      · exact (Nat.zero_add _).symm)]
    exact h_pm _ s
  · intro a q
    rw [readAt_at _ _ _ _ _ _ (ix2 a q) (by intro d; fin_cases d <;> exact (Nat.zero_add _).symm)]
    exact h_bd a q
  · intro q n
    rw [readAt_at _ _ _ _ _ _ (ix2 q n) (by intro d; fin_cases d <;> exact (Nat.zero_add _).symm)]
    exact h_hs q n
  · intro x g
    rw [readAt_at _ _ _ _ _ _ (ix2 x g) (by intro d; fin_cases d <;> exact (Nat.zero_add _).symm)]
    exact h_wa x g
  · intro a g
    rw [readAt_at _ _ _ _ _ _ (ix3 (k.cast trips_eq) a g) (by
      intro d; fin_cases d
      · show k.val = k0_off2 k 0 + 0; rw [off2_eq]; rfl
      · show a.val = k0_off2 k 1 + a.val; rw [off2_eq]; exact (Nat.zero_add _).symm
      · show g.val = k0_off2 k 2 + g.val; rw [off2_eq]; exact (Nat.zero_add _).symm)]
    exact h_gh _ a g
  · intro a
    rw [readAt_at _ _ _ _ _ _ (ix3 (k.cast trips_eq) a 0) (by
      intro d; fin_cases d
      · show k.val = k0_off3 k 0 + 0; rw [off3_eq]; rfl
      · show a.val = k0_off3 k 1 + a.val; rw [off3_eq]; exact (Nat.zero_add _).symm
      · show (0 : Nat) = k0_off3 k 2 + 0; rw [off3_eq]; rfl)]
    exact h_vm _ a

/-- With scratch that holds the row data, the loop carries the match state of every row. -/
theorem loop_state (i : grid0.Coords) (arg1 : Memref sig .tc .vmem S16x128x300 .bf16) (harg1 : arg1.IsWhole)
    (arg2 : Memref sig .tc .vmem S128x16x300 .bf16) (harg2 : arg2.IsWhole) (arg3 : Memref sig .tc .vmem S1x16x1 .i32)
    (harg3 : arg3.IsWhole) (arg4 : Memref sig .tc .vmem S1x16x1 .i32) (harg4 : arg4.IsWhole)
    (arg5 : Memref sig .tc .vmem S300x2048 .bf16) (harg5 : arg5.IsWhole) (arg6 : Memref sig .tc .vmem S1x2048 .f32)
    (harg6 : arg6.IsWhole) (arg7 : Memref sig .tc .vmem S300x2048 .bf16) (harg7 : arg7.IsWhole)
    (arg8 : Memref sig .tc .vmem S1x2048 .f32) (harg8 : arg8.IsWhole) (arg9 : Memref sig .tc .vmem S512x512 .bf16)
    (harg9 : arg9.IsWhole) (arg10 : Memref sig .tc .vmem S512x512 .bf16) (harg10 : arg10.IsWhole)
    (arg11 : Memref sig .tc .vmem S512x512 .bf16) (harg11 : arg11.IsWhole)
    (arg12 : Memref sig .tc .vmem S512x2048 .bf16) (harg12 : arg12.IsWhole)
    (arg13 : Memref sig .tc .vmem S512x2048 .bf16) (harg13 : arg13.IsWhole)
    (arg14 : Memref sig .tc .vmem S1x2048 .f32) (harg14 : arg14.IsWhole) (arg15 : Memref sig .tc .vmem S1x1x512 .f32)
    (harg15 : arg15.IsWhole) (arg16 : Memref sig .tc .vmem S512x3 .f32) (harg16 : arg16.IsWhole)
    (arg17 : Memref sig .tc .vmem S1x3 .f32) (harg17 : arg17.IsWhole) (arg18 : Memref sig .tc .vmem S16x3 .f32)
    (harg18 : arg18.IsWhole) (arg19 : Memref sig .tc .vmem S2048x512 .bf16) (harg19 : arg19.IsWhole)
    (arg20 : Memref sig .tc .vmem S16x128x512 .f32) (harg20 : arg20.IsWhole)
    (arg21 : Memref sig .tc .vmem S128x16x2048 .bf16) (harg21 : arg21.IsWhole)
    (arg22 : Memref sig .tc .vmem S128x16x512 .f32) (harg22 : arg22.IsWhole)
    (arg23 : Memref sig .tc .vmem S16x128 .f32) (harg23 : arg23.IsWhole) (arg24 : Memref sig .tc .vmem S128x16x1 .f32)
    (harg24 : arg24.IsWhole) (arg25 : Memref sig .tc .vmem S16x2048 .bf16) (harg25 : arg25.IsWhole)
    (X_arg11 : BufTy.Contents (Elt Ideal) arg11.view.ty) (X_arg12 : BufTy.Contents (Elt Ideal) arg12.view.ty)
    (X_arg15 : BufTy.Contents (Elt Ideal) arg15.view.ty) (X_arg19 : BufTy.Contents (Elt Ideal) arg19.view.ty)
    (X_arg20 : BufTy.Contents (Elt Ideal) arg20.view.ty) (X_arg21 : BufTy.Contents (Elt Ideal) arg21.view.ty)
    (X_arg22 : BufTy.Contents (Elt Ideal) arg22.view.ty) (X_arg23 : BufTy.Contents (Elt Ideal) arg23.view.ty)
    (X_arg24 : BufTy.Contents (Elt Ideal) arg24.view.ty) (X_arg25 : BufTy.Contents (Elt Ideal) arg25.view.ty)
    (h_wm : ∀ y x, arg11.view.read (Elt Ideal) X_arg11 (ix2 y x) = W.wm y x)
    (h_wa : ∀ x g, arg12.view.read (Elt Ideal) X_arg12 (ix2 x g) = W.wa x g)
    (h_we : ∀ x, arg15.view.read (Elt Ideal) X_arg15 (ix3 0 0 x) = W.we x)
    (h_hs : ∀ (q : Fin 2048) n, arg19.view.read (Elt Ideal) X_arg19 (ix2 q n)
      = Net.hs W (R ⟨q.val / 128, by omega⟩) ⟨q.val % 128, by omega⟩ n)
    (h_sp : ∀ a s x, arg20.view.read (Elt Ideal) X_arg20 (ix3 a s x) = Net.sp W (R a) s x)
    (h_gh : ∀ t a g, arg21.view.read (Elt Ideal) X_arg21 (ix3 t a g) = Net.gh W (R a) t g)
    (h_tp : ∀ t a n, arg22.view.read (Elt Ideal) X_arg22 (ix3 t a n) = Net.tp W (R a) t n)
    (h_pm : ∀ (a : Fin 16) (s : Fin 128), ((0 : EReal) < arg23.view.read (Elt Ideal) X_arg23 (ix2 a s))
      ↔ (BitVec.ofNat 32 s.val).slt (R a).pl = true)
    (h_vm : ∀ (t : Fin 128) (a : Fin 16), ((0 : EReal) < arg24.view.read (Elt Ideal) X_arg24 (ix3 t a 0))
      ↔ (BitVec.ofNat 32 t.val).slt (R a).hl = true)
    (h_bd : ∀ (a : Fin 16) (q : Fin 2048), arg25.view.read (Elt Ideal) X_arg25 (ix2 a q)
      = if q.val / 128 = a.val then (1 : EReal) else 0)
    (init : FVec Ideal S16x512 .f32) (h_init : ∀ a n, init (ix2 a n) = 0) :
    ∀ (k : Nat) (_ : k ≤ 128) (a : Fin 16) (n : Fin 512),
      st_k0_t1 (F := Ideal) Variants.none c none
        i arg1 harg1 arg2 harg2 arg3 harg3 arg4 harg4 arg5 harg5 arg6 harg6 arg7 harg7 arg8 harg8 arg9 harg9 arg10
        harg10 arg11 harg11 arg12 harg12 arg13 harg13 arg14 harg14 arg15 harg15 arg16 harg16 arg17 harg17 arg18 harg18
        arg19 harg19 arg20 harg20 arg21 harg21 arg22 harg22 arg23 harg23 arg24 harg24 arg25 harg25 X_arg11 X_arg12
        X_arg15 X_arg19 X_arg20 X_arg21 X_arg22 X_arg23 X_arg24 X_arg25 init k (ix2 a n)
        = Net.state W (R a) k n := by
  intro k
  induction k with
  | zero => intro _ a n; exact h_init a n
  | succ k ih =>
    intro hk a n
    have hs := st_k0_t1_succ (F := Ideal) Variants.none c none
      i arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18 harg18
      arg19 harg19 arg20 harg20 arg21 harg21 arg22 harg22 arg23 harg23 arg24 harg24 arg25 harg25 X_arg11 X_arg12
      X_arg15 X_arg19 X_arg20 X_arg21 X_arg22 X_arg23 X_arg24 X_arg25 init (⟨k, by rw [trips_eq]; omega⟩ : Fin k0_t1_loop.trips)
    rw [hs, Net.state_succ W (R a) (⟨k, by omega⟩ : Fin 128)]
    exact trip_step c W R
      i arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18 harg18
      arg19 harg19 arg20 harg20 arg21 harg21 arg22 harg22 arg23 harg23 arg24 harg24 arg25 harg25 X_arg11 X_arg12
      X_arg15 X_arg19 X_arg20 X_arg21 X_arg22 X_arg23 X_arg24 X_arg25
      h_wm h_wa h_we h_hs h_sp h_gh h_tp h_pm h_vm h_bd ⟨k, by rw [trips_eq]; omega⟩ _
      (fun a n => Net.state W (R a) k n) (fun a n => ih (by omega) a n) a n

end Cert.KernelIdeal.Value
-- ==== Proof.KernelIdealEncoders.lean ====
module
public import proofs.«01_k».proof.Proof.KernelIdealBlocks
public import proofs.«01_k».proof.Proof.Spec
public import Idealize.ShloMosaic.Lib.Pipeline.ValueKit
public import Idealize.ShloMosaic.Lib.Pointwise
public import Idealize.ShloMosaic.Lib.Pipeline.ReadBack

/-! The encoders of the kernel over the extended reals: each chunk's stored values, read at an index. -/

@[expose] public section

set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen

/-- Premise chunk: entry (row `q / 128`, position `q % 128`) of the hidden vectors. -/
theorem premise_hidden (x : Vec Ideal S2x128x300 .bf16) (w : Vec Ideal S300x2048 .bf16) (b : Vec Ideal S1x2048 .f32)
    (q : Fin 256) (n : Fin 512) :
    k0_pay10 x w b (ix2 q n)
      = Net.enc (fun e => x (ix3 ⟨q.val / 128, by omega⟩ ⟨q.val % 128, by omega⟩ e)) (fun e g => w (ix2 e g))
          (fun g => b (ix2 0 g)) n := by
  pointwise [k0_pay10, k0_pay9, Net.enc, Net.cell, Net.gate]

/-- Premise chunk: the projection of the hidden vectors. -/
theorem premise_proj (x : Vec Ideal S2x128x300 .bf16) (w : Vec Ideal S300x2048 .bf16) (b : Vec Ideal S1x2048 .f32)
    (ws : Vec Ideal S512x512 .bf16) (a : Fin 2) (s : Fin 128) (n : Fin 512) :
    k0_pay11 x w b ws (ix3 a s n)
      = ∑ y, Net.enc (fun e => x (ix3 a s e)) (fun e g => w (ix2 e g)) (fun g => b (ix2 0 g)) y * ws (ix2 y n) := by
  pointwise [k0_pay11, k0_pay9, Net.enc, Net.cell, Net.gate]

/-- Hypothesis chunk: the share of the match cell's gates. -/
theorem hypothesis_gates (x : Vec Ideal S16x16x300 .bf16) (w : Vec Ideal S300x2048 .bf16) (b : Vec Ideal S1x2048 .f32)
    (wb : Vec Ideal S512x2048 .bf16) (bm : Vec Ideal S1x2048 .f32) (t a : Fin 16) (g : Fin 2048) :
    k0_pay46 (k0_pay44 x w b) wb bm (ix3 t a g)
      = ∑ y, Net.enc (fun e => x (ix3 t a e)) (fun e g => w (ix2 e g)) (fun g => b (ix2 0 g)) y * wb (ix2 y g)
          + bm (ix2 0 g) := by
  pointwise [k0_pay46, k0_pay45, k0_pay44, Net.enc, Net.cell, Net.gate]

/-- Hypothesis chunk: the projection of the hidden vectors. -/
theorem hypothesis_proj (x : Vec Ideal S16x16x300 .bf16) (w : Vec Ideal S300x2048 .bf16) (b : Vec Ideal S1x2048 .f32)
    (wt : Vec Ideal S512x512 .bf16) (t a : Fin 16) (n : Fin 512) :
    k0_pay47 (k0_pay44 x w b) wt (ix3 t a n)
      = ∑ y, Net.enc (fun e => x (ix3 t a e)) (fun e g => w (ix2 e g)) (fun g => b (ix2 0 g)) y * wt (ix2 y n) := by
  pointwise [k0_pay47, k0_pay45, k0_pay44, Net.enc, Net.cell, Net.gate]

end Cert.KernelIdeal.Value
-- ==== Proof.KernelIdealScratch.lean ====
module
public import proofs.«01_k».proof.Proof.KernelIdealEncoders
public import proofs.«01_k».proof.Proof.Spec
public import Idealize.ShloMosaic.Lib.Pipeline.ValueKit
public import Idealize.ShloMosaic.Lib.Pointwise
public import Idealize.ShloMosaic.Lib.Pipeline.ReadBack

/-! What the kernel's scratch buffers hold once every chunk is stored. -/

@[expose] public section

set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen

variable (W : Net.Weights) (R : Fin 16 → Net.Row)

/-- Every index of two axes is a pair of coordinates. -/
theorem exists_ix2 {n0 n1 : Nat} (y : (⟨2, ![n0, n1]⟩ : Shape).Idx) : ∃ (p : Fin n0) (q : Fin n1), y = ix2 p q :=
  ⟨y (0 : Fin 2), y (1 : Fin 2), funext fun d => by fin_cases d <;> rfl⟩

/-- Every index of three axes is a triple of coordinates. -/
theorem exists_ix3 {n0 n1 n2 : Nat} (y : (⟨3, ![n0, n1, n2]⟩ : Shape).Idx) :
    ∃ (p : Fin n0) (q : Fin n1) (r : Fin n2), y = ix3 p q r :=
  ⟨y (0 : Fin 3), y (1 : Fin 3), y (2 : Fin 3), funext fun d => by fin_cases d <;> rfl⟩

/-- The premise's hidden vectors as the scratch holds them: row `q` is position `q % 128` of batch row `q / 128`. -/
def hiddenAt (i : S2048x512.Idx) : EReal :=
  Net.hs W (R ⟨(i (0 : Fin 2)).val / 128, by have : (i (0 : Fin 2)).val < 2048 := (i (0 : Fin 2)).isLt; omega⟩)
    ⟨(i (0 : Fin 2)).val % 128, Nat.mod_lt _ (by decide)⟩ (i (1 : Fin 2))

/-- The premise's projections as the scratch holds them. -/
def projAt (i : S16x128x512.Idx) : EReal := Net.sp W (R (i (0 : Fin 3))) (i (1 : Fin 3)) (i (2 : Fin 3))

/-- The gates' shares as the scratch holds them, the position first. -/
def gatesAt (i : S128x16x2048.Idx) : EReal := Net.gh W (R (i (1 : Fin 3))) (i (0 : Fin 3)) (i (2 : Fin 3))

/-- The hypothesis's projections as the scratch holds them, the position first. -/
def hypProjAt (i : S128x16x512.Idx) : EReal := Net.tp W (R (i (1 : Fin 3))) (i (0 : Fin 3)) (i (2 : Fin 3))

/-- A premise chunk is a block of the hidden vectors. -/
theorem hidden_chunk (j o : Nat) (hj : j < 8) (ho : o = 256 * j) (x : Vec Ideal S2x128x300 .bf16)
    (w : Vec Ideal S300x2048 .bf16) (b : Vec Ideal S1x2048 .f32)
    (hx : ∀ (a : Fin 2) s e, x (ix3 a s e) = (R ⟨2 * j + a.val, by omega⟩).prem s e)
    (hw : ∀ e g, w (ix2 e g) = W.wp e g) (hb : ∀ g, b (ix2 0 g) = W.bp g) (inb)
    (y : (Rect.unit (s := S2048x512) ![o, 0] S256x512.size inb).shape.Idx) :
    k0_pay10 x w b y = hiddenAt W R ((Rect.unit (s := S2048x512) ![o, 0] S256x512.size inb).emb y) := by
  obtain ⟨q, n, rfl⟩ := exists_ix2 (n0 := 256) (n1 := 512) y
  refine (premise_hidden x w b q n).trans ?_
  simp only [hx, hw, hb]
  have e0 : ((Rect.unit (s := S2048x512) ![o, 0] S256x512.size inb).emb (ix2 q n) (0 : Fin 2)).val = o + 1 * q.val := rfl
  have e1 : (Rect.unit (s := S2048x512) ![o, 0] S256x512.size inb).emb (ix2 q n) (1 : Fin 2) = n :=
    Fin.ext (show 0 + 1 * n.val = n.val by omega)
  unfold hiddenAt
  rw [e1]
  have r0 : (⟨((Rect.unit (s := S2048x512) ![o, 0] S256x512.size inb).emb (ix2 q n) (0 : Fin 2)).val / 128, by
      rw [e0]; omega⟩ : Fin 16) = ⟨2 * j + q.val / 128, by omega⟩ := Fin.ext (by simp only [e0]; omega)
  have r1 : (⟨((Rect.unit (s := S2048x512) ![o, 0] S256x512.size inb).emb (ix2 q n) (0 : Fin 2)).val % 128,
      Nat.mod_lt _ (by decide)⟩ : Fin 128) = ⟨q.val % 128, Nat.mod_lt _ (by decide)⟩ := Fin.ext (by simp only [e0]; omega)
  rw [r0, r1]
  rfl

/-- A premise chunk's projections are a block of the projections. -/
theorem proj_chunk (j o : Nat) (hj : j < 8) (ho : o = 2 * j) (x : Vec Ideal S2x128x300 .bf16)
    (w : Vec Ideal S300x2048 .bf16) (b : Vec Ideal S1x2048 .f32) (ws : Vec Ideal S512x512 .bf16)
    (hx : ∀ (a : Fin 2) s e, x (ix3 a s e) = (R ⟨2 * j + a.val, by omega⟩).prem s e)
    (hw : ∀ e g, w (ix2 e g) = W.wp e g) (hb : ∀ g, b (ix2 0 g) = W.bp g) (hws : ∀ y n, ws (ix2 y n) = W.ws y n) (inb)
    (y : (Rect.unit (s := S16x128x512) ![o, 0, 0] S2x128x512.size inb).shape.Idx) :
    k0_pay11 x w b ws y = projAt W R ((Rect.unit (s := S16x128x512) ![o, 0, 0] S2x128x512.size inb).emb y) := by
  obtain ⟨a, s, n, rfl⟩ := exists_ix3 (n0 := 2) (n1 := 128) (n2 := 512) y
  refine (premise_proj x w b ws a s n).trans ?_
  simp only [hx, hw, hb, hws]
  have e0 : (Rect.unit (s := S16x128x512) ![o, 0, 0] S2x128x512.size inb).emb (ix3 a s n) (0 : Fin 3)
      = (⟨2 * j + a.val, by omega⟩ : Fin 16) := Fin.ext (show o + 1 * a.val = _ by simp only; omega)
  have e1 : (Rect.unit (s := S16x128x512) ![o, 0, 0] S2x128x512.size inb).emb (ix3 a s n) (1 : Fin 3) = s :=
    Fin.ext (show 0 + 1 * s.val = s.val by omega)
  have e2 : (Rect.unit (s := S16x128x512) ![o, 0, 0] S2x128x512.size inb).emb (ix3 a s n) (2 : Fin 3) = n :=
    Fin.ext (show 0 + 1 * n.val = n.val by omega)
  unfold projAt
  rw [e0, e1, e2]
  rfl

/-- A hypothesis chunk's share of the gates is a block of the shares. -/
theorem gates_chunk (j o : Nat) (hj : j < 8) (ho : o = 16 * j) (x : Vec Ideal S16x16x300 .bf16)
    (w : Vec Ideal S300x2048 .bf16) (b : Vec Ideal S1x2048 .f32) (wb : Vec Ideal S512x2048 .bf16)
    (bm : Vec Ideal S1x2048 .f32)
    (hx : ∀ (t a : Fin 16) e, x (ix3 t a e) = (R a).hyp ⟨16 * j + t.val, by omega⟩ e)
    (hw : ∀ e g, w (ix2 e g) = W.wh e g) (hb : ∀ g, b (ix2 0 g) = W.bh g) (hwb : ∀ y g, wb (ix2 y g) = W.wb y g)
    (hbm : ∀ g, bm (ix2 0 g) = W.bm g) (inb)
    (y : (Rect.unit (s := S128x16x2048) ![o, 0, 0] S16x16x2048.size inb).shape.Idx) :
    k0_pay46 (k0_pay44 x w b) wb bm y
      = gatesAt W R ((Rect.unit (s := S128x16x2048) ![o, 0, 0] S16x16x2048.size inb).emb y) := by
  obtain ⟨t, a, g, rfl⟩ := exists_ix3 (n0 := 16) (n1 := 16) (n2 := 2048) y
  refine (hypothesis_gates x w b wb bm t a g).trans ?_
  simp only [hx, hw, hb, hwb, hbm]
  have e0 : (Rect.unit (s := S128x16x2048) ![o, 0, 0] S16x16x2048.size inb).emb (ix3 t a g) (0 : Fin 3)
      = (⟨16 * j + t.val, by omega⟩ : Fin 128) := Fin.ext (show o + 1 * t.val = _ by simp only; omega)
  have e1 : (Rect.unit (s := S128x16x2048) ![o, 0, 0] S16x16x2048.size inb).emb (ix3 t a g) (1 : Fin 3) = a :=
    Fin.ext (show 0 + 1 * a.val = a.val by omega)
  have e2 : (Rect.unit (s := S128x16x2048) ![o, 0, 0] S16x16x2048.size inb).emb (ix3 t a g) (2 : Fin 3) = g :=
    Fin.ext (show 0 + 1 * g.val = g.val by omega)
  unfold gatesAt
  rw [e0, e1, e2]
  rfl

/-- A hypothesis chunk's projections are a block of the projections. -/
theorem hypProj_chunk (j o : Nat) (hj : j < 8) (ho : o = 16 * j) (x : Vec Ideal S16x16x300 .bf16)
    (w : Vec Ideal S300x2048 .bf16) (b : Vec Ideal S1x2048 .f32) (wt : Vec Ideal S512x512 .bf16)
    (hx : ∀ (t a : Fin 16) e, x (ix3 t a e) = (R a).hyp ⟨16 * j + t.val, by omega⟩ e)
    (hw : ∀ e g, w (ix2 e g) = W.wh e g) (hb : ∀ g, b (ix2 0 g) = W.bh g) (hwt : ∀ y n, wt (ix2 y n) = W.wt y n) (inb)
    (y : (Rect.unit (s := S128x16x512) ![o, 0, 0] S16x16x512.size inb).shape.Idx) :
    k0_pay47 (k0_pay44 x w b) wt y
      = hypProjAt W R ((Rect.unit (s := S128x16x512) ![o, 0, 0] S16x16x512.size inb).emb y) := by
  obtain ⟨t, a, n, rfl⟩ := exists_ix3 (n0 := 16) (n1 := 16) (n2 := 512) y
  refine (hypothesis_proj x w b wt t a n).trans ?_
  simp only [hx, hw, hb, hwt]
  have e0 : (Rect.unit (s := S128x16x512) ![o, 0, 0] S16x16x512.size inb).emb (ix3 t a n) (0 : Fin 3)
      = (⟨16 * j + t.val, by omega⟩ : Fin 128) := Fin.ext (show o + 1 * t.val = _ by simp only; omega)
  have e1 : (Rect.unit (s := S128x16x512) ![o, 0, 0] S16x16x512.size inb).emb (ix3 t a n) (1 : Fin 3) = a :=
    Fin.ext (show 0 + 1 * a.val = a.val by omega)
  have e2 : (Rect.unit (s := S128x16x512) ![o, 0, 0] S16x16x512.size inb).emb (ix3 t a n) (2 : Fin 3) = n :=
    Fin.ext (show 0 + 1 * n.val = n.val by omega)
  unfold hypProjAt
  rw [e0, e1, e2]
  rfl

/-- The eight premise chunks fill the scratch with the hidden vectors. -/
theorem hidden_contents {κ : Kind} {sp : Space} (v : View sig κ sp S2048x512 .bf16) (f : v.ty.Contents (Elt Ideal)) (x0 x1 x2 x3 x4 x5 x6 x7 : Vec Ideal S2x128x300 .bf16)
    (w : Vec Ideal S300x2048 .bf16) (b : Vec Ideal S1x2048 .f32)
    (hx0 : ∀ (a : Fin 2) s e, x0 (ix3 a s e) = (R ⟨2 * 0 + a.val, by omega⟩).prem s e)
    (hx1 : ∀ (a : Fin 2) s e, x1 (ix3 a s e) = (R ⟨2 * 1 + a.val, by omega⟩).prem s e)
    (hx2 : ∀ (a : Fin 2) s e, x2 (ix3 a s e) = (R ⟨2 * 2 + a.val, by omega⟩).prem s e)
    (hx3 : ∀ (a : Fin 2) s e, x3 (ix3 a s e) = (R ⟨2 * 3 + a.val, by omega⟩).prem s e)
    (hx4 : ∀ (a : Fin 2) s e, x4 (ix3 a s e) = (R ⟨2 * 4 + a.val, by omega⟩).prem s e)
    (hx5 : ∀ (a : Fin 2) s e, x5 (ix3 a s e) = (R ⟨2 * 5 + a.val, by omega⟩).prem s e)
    (hx6 : ∀ (a : Fin 2) s e, x6 (ix3 a s e) = (R ⟨2 * 6 + a.val, by omega⟩).prem s e)
    (hx7 : ∀ (a : Fin 2) s e, x7 (ix3 a s e) = (R ⟨2 * 7 + a.val, by omega⟩).prem s e)
    (hw : ∀ e g, w (ix2 e g) = W.wp e g) (hb : ∀ g, b (ix2 0 g) = W.bp g) (i0) (i1) (i2) (i3) (i4) (i5) (i6) (i7) :
    v.read (Elt Ideal) (v.writes (Elt Ideal) f
      [⟨Rect.unit ![1792, 0] S256x512.size i7, k0_pay42 (k0_pay39 x7 w) (k0_pay40 b)⟩,
        ⟨Rect.unit ![1536, 0] S256x512.size i6, k0_pay37 (k0_pay35 x6) w b⟩,
        ⟨Rect.unit ![1280, 0] S256x512.size i5, k0_pay33 x5 w b⟩,
        ⟨Rect.unit ![1024, 0] S256x512.size i4, k0_pay29 x4 w b⟩,
        ⟨Rect.unit ![768, 0] S256x512.size i3, k0_pay26 (k0_pay25 x3 w b)⟩,
        ⟨Rect.unit ![512, 0] S256x512.size i2, k0_pay22 (k0_pay18 x2 w b) (k0_pay19 x2 w b) (k0_pay20 x2 w b)⟩,
        ⟨Rect.unit ![256, 0] S256x512.size i1, k0_pay15 (k0_pay12 x1) (k0_pay13 w) b⟩,
        ⟨Rect.unit ![0, 0] S256x512.size i0, k0_pay10 x0 w b⟩]) = hiddenAt W R := by
  funext y
  refine View.read_writes_apply_of_pieces v f (hiddenAt W R) _ ?_ y (View.cover_of_tiledL (s := S2048x512) _ S256x512.size rfl y)
  intro p hp
  simp only [List.mem_cons, List.not_mem_nil, or_false] at hp
  rcases hp with rfl | rfl | rfl | rfl | rfl | rfl | rfl | rfl
  · exact hidden_chunk W R 7 _ (by decide) rfl x7 w b hx7 hw hb i7
  · exact hidden_chunk W R 6 _ (by decide) rfl x6 w b hx6 hw hb i6
  · exact hidden_chunk W R 5 _ (by decide) rfl x5 w b hx5 hw hb i5
  · exact hidden_chunk W R 4 _ (by decide) rfl x4 w b hx4 hw hb i4
  · exact hidden_chunk W R 3 _ (by decide) rfl x3 w b hx3 hw hb i3
  · exact hidden_chunk W R 2 _ (by decide) rfl x2 w b hx2 hw hb i2
  · exact hidden_chunk W R 1 _ (by decide) rfl x1 w b hx1 hw hb i1
  · exact hidden_chunk W R 0 _ (by decide) rfl x0 w b hx0 hw hb i0

/-- The eight premise chunks fill the scratch with the projections. -/
theorem proj_contents {κ : Kind} {sp : Space} (v : View sig κ sp S16x128x512 .f32) (f : v.ty.Contents (Elt Ideal)) (x0 x1 x2 x3 x4 x5 x6 x7 : Vec Ideal S2x128x300 .bf16)
    (w : Vec Ideal S300x2048 .bf16) (b : Vec Ideal S1x2048 .f32) (ws : Vec Ideal S512x512 .bf16)
    (hx0 : ∀ (a : Fin 2) s e, x0 (ix3 a s e) = (R ⟨2 * 0 + a.val, by omega⟩).prem s e)
    (hx1 : ∀ (a : Fin 2) s e, x1 (ix3 a s e) = (R ⟨2 * 1 + a.val, by omega⟩).prem s e)
    (hx2 : ∀ (a : Fin 2) s e, x2 (ix3 a s e) = (R ⟨2 * 2 + a.val, by omega⟩).prem s e)
    (hx3 : ∀ (a : Fin 2) s e, x3 (ix3 a s e) = (R ⟨2 * 3 + a.val, by omega⟩).prem s e)
    (hx4 : ∀ (a : Fin 2) s e, x4 (ix3 a s e) = (R ⟨2 * 4 + a.val, by omega⟩).prem s e)
    (hx5 : ∀ (a : Fin 2) s e, x5 (ix3 a s e) = (R ⟨2 * 5 + a.val, by omega⟩).prem s e)
    (hx6 : ∀ (a : Fin 2) s e, x6 (ix3 a s e) = (R ⟨2 * 6 + a.val, by omega⟩).prem s e)
    (hx7 : ∀ (a : Fin 2) s e, x7 (ix3 a s e) = (R ⟨2 * 7 + a.val, by omega⟩).prem s e)
    (hw : ∀ e g, w (ix2 e g) = W.wp e g) (hb : ∀ g, b (ix2 0 g) = W.bp g) (hws : ∀ y n, ws (ix2 y n) = W.ws y n) (i0) (i1) (i2) (i3) (i4) (i5) (i6) (i7) :
    v.read (Elt Ideal) (v.writes (Elt Ideal) f
      [⟨Rect.unit ![14, 0, 0] S2x128x512.size i7, k0_pay43 (k0_pay39 x7 w) (k0_pay40 b) ws⟩,
        ⟨Rect.unit ![12, 0, 0] S2x128x512.size i6, k0_pay38 (k0_pay35 x6) w b ws⟩,
        ⟨Rect.unit ![10, 0, 0] S2x128x512.size i5, k0_pay34 x5 w b ws⟩,
        ⟨Rect.unit ![8, 0, 0] S2x128x512.size i4, k0_pay31 (k0_pay30 x4 w b ws)⟩,
        ⟨Rect.unit ![6, 0, 0] S2x128x512.size i3, k0_pay27 (k0_pay24 x3 w b) ws⟩,
        ⟨Rect.unit ![4, 0, 0] S2x128x512.size i2, k0_pay23 (k0_pay18 x2 w b) (k0_pay19 x2 w b) (k0_pay20 x2 w b) ws⟩,
        ⟨Rect.unit ![2, 0, 0] S2x128x512.size i1, k0_pay16 (k0_pay12 x1) (k0_pay13 w) b ws⟩,
        ⟨Rect.unit ![0, 0, 0] S2x128x512.size i0, k0_pay11 x0 w b ws⟩]) = projAt W R := by
  funext y
  refine View.read_writes_apply_of_pieces v f (projAt W R) _ ?_ y (View.cover_of_tiledL (s := S16x128x512) _ S2x128x512.size rfl y)
  intro p hp
  simp only [List.mem_cons, List.not_mem_nil, or_false] at hp
  rcases hp with rfl | rfl | rfl | rfl | rfl | rfl | rfl | rfl
  · exact proj_chunk W R 7 _ (by decide) rfl x7 w b ws hx7 hw hb hws i7
  · exact proj_chunk W R 6 _ (by decide) rfl x6 w b ws hx6 hw hb hws i6
  · exact proj_chunk W R 5 _ (by decide) rfl x5 w b ws hx5 hw hb hws i5
  · exact proj_chunk W R 4 _ (by decide) rfl x4 w b ws hx4 hw hb hws i4
  · exact proj_chunk W R 3 _ (by decide) rfl x3 w b ws hx3 hw hb hws i3
  · exact proj_chunk W R 2 _ (by decide) rfl x2 w b ws hx2 hw hb hws i2
  · exact proj_chunk W R 1 _ (by decide) rfl x1 w b ws hx1 hw hb hws i1
  · exact proj_chunk W R 0 _ (by decide) rfl x0 w b ws hx0 hw hb hws i0

/-- The eight hypothesis chunks fill the scratch with the shares of the gates. -/
theorem gates_contents {κ : Kind} {sp : Space} (v : View sig κ sp S128x16x2048 .bf16) (f : v.ty.Contents (Elt Ideal)) (x0 x1 x2 x3 x4 x5 x6 x7 : Vec Ideal S16x16x300 .bf16)
    (w : Vec Ideal S300x2048 .bf16) (b : Vec Ideal S1x2048 .f32) (wb : Vec Ideal S512x2048 .bf16)
    (bm : Vec Ideal S1x2048 .f32)
    (hx0 : ∀ (t a : Fin 16) e, x0 (ix3 t a e) = (R a).hyp ⟨16 * 0 + t.val, by omega⟩ e)
    (hx1 : ∀ (t a : Fin 16) e, x1 (ix3 t a e) = (R a).hyp ⟨16 * 1 + t.val, by omega⟩ e)
    (hx2 : ∀ (t a : Fin 16) e, x2 (ix3 t a e) = (R a).hyp ⟨16 * 2 + t.val, by omega⟩ e)
    (hx3 : ∀ (t a : Fin 16) e, x3 (ix3 t a e) = (R a).hyp ⟨16 * 3 + t.val, by omega⟩ e)
    (hx4 : ∀ (t a : Fin 16) e, x4 (ix3 t a e) = (R a).hyp ⟨16 * 4 + t.val, by omega⟩ e)
    (hx5 : ∀ (t a : Fin 16) e, x5 (ix3 t a e) = (R a).hyp ⟨16 * 5 + t.val, by omega⟩ e)
    (hx6 : ∀ (t a : Fin 16) e, x6 (ix3 t a e) = (R a).hyp ⟨16 * 6 + t.val, by omega⟩ e)
    (hx7 : ∀ (t a : Fin 16) e, x7 (ix3 t a e) = (R a).hyp ⟨16 * 7 + t.val, by omega⟩ e)
    (hw : ∀ e g, w (ix2 e g) = W.wh e g) (hb : ∀ g, b (ix2 0 g) = W.bh g) (hwb : ∀ y g, wb (ix2 y g) = W.wb y g)
    (hbm : ∀ g, bm (ix2 0 g) = W.bm g) (i0) (i1) (i2) (i3) (i4) (i5) (i6) (i7) :
    v.read (Elt Ideal) (v.writes (Elt Ideal) f
      [⟨Rect.unit ![112, 0, 0] S16x16x2048.size i7, k0_pay79 (k0_pay77 x7) w b wb bm⟩,
        ⟨Rect.unit ![96, 0, 0] S16x16x2048.size i6, k0_pay75 (k0_pay73 x6) w b wb bm⟩,
        ⟨Rect.unit ![80, 0, 0] S16x16x2048.size i5, k0_pay71 (k0_pay69 x5 w) b wb bm⟩,
        ⟨Rect.unit ![64, 0, 0] S16x16x2048.size i4, k0_pay67 (k0_pay65 x4 w) b wb bm⟩,
        ⟨Rect.unit ![48, 0, 0] S16x16x2048.size i3, k0_pay63 (k0_pay61 x3 w b) wb bm⟩,
        ⟨Rect.unit ![32, 0, 0] S16x16x2048.size i2, k0_pay59 (k0_pay55 x2 w b) (k0_pay56 x2 w b) (k0_pay57 x2 w b) wb bm⟩,
        ⟨Rect.unit ![16, 0, 0] S16x16x2048.size i1, k0_pay52 (k0_pay49 x1 w b) (k0_pay50 x1 w b) wb bm⟩,
        ⟨Rect.unit ![0, 0, 0] S16x16x2048.size i0, k0_pay46 (k0_pay44 x0 w b) wb bm⟩]) = gatesAt W R := by
  funext y
  refine View.read_writes_apply_of_pieces v f (gatesAt W R) _ ?_ y (View.cover_of_tiledL (s := S128x16x2048) _ S16x16x2048.size rfl y)
  intro p hp
  simp only [List.mem_cons, List.not_mem_nil, or_false] at hp
  rcases hp with rfl | rfl | rfl | rfl | rfl | rfl | rfl | rfl
  · exact gates_chunk W R 7 _ (by decide) rfl x7 w b wb bm hx7 hw hb hwb hbm i7
  · exact gates_chunk W R 6 _ (by decide) rfl x6 w b wb bm hx6 hw hb hwb hbm i6
  · exact gates_chunk W R 5 _ (by decide) rfl x5 w b wb bm hx5 hw hb hwb hbm i5
  · exact gates_chunk W R 4 _ (by decide) rfl x4 w b wb bm hx4 hw hb hwb hbm i4
  · exact gates_chunk W R 3 _ (by decide) rfl x3 w b wb bm hx3 hw hb hwb hbm i3
  · exact gates_chunk W R 2 _ (by decide) rfl x2 w b wb bm hx2 hw hb hwb hbm i2
  · exact gates_chunk W R 1 _ (by decide) rfl x1 w b wb bm hx1 hw hb hwb hbm i1
  · exact gates_chunk W R 0 _ (by decide) rfl x0 w b wb bm hx0 hw hb hwb hbm i0

/-- The eight hypothesis chunks fill the scratch with the projections. -/
theorem hypProj_contents {κ : Kind} {sp : Space} (v : View sig κ sp S128x16x512 .f32) (f : v.ty.Contents (Elt Ideal)) (x0 x1 x2 x3 x4 x5 x6 x7 : Vec Ideal S16x16x300 .bf16)
    (w : Vec Ideal S300x2048 .bf16) (b : Vec Ideal S1x2048 .f32) (wt : Vec Ideal S512x512 .bf16)
    (hx0 : ∀ (t a : Fin 16) e, x0 (ix3 t a e) = (R a).hyp ⟨16 * 0 + t.val, by omega⟩ e)
    (hx1 : ∀ (t a : Fin 16) e, x1 (ix3 t a e) = (R a).hyp ⟨16 * 1 + t.val, by omega⟩ e)
    (hx2 : ∀ (t a : Fin 16) e, x2 (ix3 t a e) = (R a).hyp ⟨16 * 2 + t.val, by omega⟩ e)
    (hx3 : ∀ (t a : Fin 16) e, x3 (ix3 t a e) = (R a).hyp ⟨16 * 3 + t.val, by omega⟩ e)
    (hx4 : ∀ (t a : Fin 16) e, x4 (ix3 t a e) = (R a).hyp ⟨16 * 4 + t.val, by omega⟩ e)
    (hx5 : ∀ (t a : Fin 16) e, x5 (ix3 t a e) = (R a).hyp ⟨16 * 5 + t.val, by omega⟩ e)
    (hx6 : ∀ (t a : Fin 16) e, x6 (ix3 t a e) = (R a).hyp ⟨16 * 6 + t.val, by omega⟩ e)
    (hx7 : ∀ (t a : Fin 16) e, x7 (ix3 t a e) = (R a).hyp ⟨16 * 7 + t.val, by omega⟩ e)
    (hw : ∀ e g, w (ix2 e g) = W.wh e g) (hb : ∀ g, b (ix2 0 g) = W.bh g) (hwt : ∀ y n, wt (ix2 y n) = W.wt y n) (i0) (i1) (i2) (i3) (i4) (i5) (i6) (i7) :
    v.read (Elt Ideal) (v.writes (Elt Ideal) f
      [⟨Rect.unit ![112, 0, 0] S16x16x512.size i7, k0_pay80 (k0_pay77 x7) w b wt⟩,
        ⟨Rect.unit ![96, 0, 0] S16x16x512.size i6, k0_pay76 (k0_pay73 x6) w b wt⟩,
        ⟨Rect.unit ![80, 0, 0] S16x16x512.size i5, k0_pay72 (k0_pay69 x5 w) b wt⟩,
        ⟨Rect.unit ![64, 0, 0] S16x16x512.size i4, k0_pay68 (k0_pay65 x4 w) b wt⟩,
        ⟨Rect.unit ![48, 0, 0] S16x16x512.size i3, k0_pay64 (k0_pay61 x3 w b) wt⟩,
        ⟨Rect.unit ![32, 0, 0] S16x16x512.size i2, k0_pay60 (k0_pay55 x2 w b) (k0_pay56 x2 w b) (k0_pay57 x2 w b) wt⟩,
        ⟨Rect.unit ![16, 0, 0] S16x16x512.size i1, k0_pay53 (k0_pay49 x1 w b) (k0_pay50 x1 w b) wt⟩,
        ⟨Rect.unit ![0, 0, 0] S16x16x512.size i0, k0_pay47 (k0_pay44 x0 w b) wt⟩]) = hypProjAt W R := by
  funext y
  refine View.read_writes_apply_of_pieces v f (hypProjAt W R) _ ?_ y (View.cover_of_tiledL (s := S128x16x512) _ S16x16x512.size rfl y)
  intro p hp
  simp only [List.mem_cons, List.not_mem_nil, or_false] at hp
  rcases hp with rfl | rfl | rfl | rfl | rfl | rfl | rfl | rfl
  · exact hypProj_chunk W R 7 _ (by decide) rfl x7 w b wt hx7 hw hb hwt i7
  · exact hypProj_chunk W R 6 _ (by decide) rfl x6 w b wt hx6 hw hb hwt i6
  · exact hypProj_chunk W R 5 _ (by decide) rfl x5 w b wt hx5 hw hb hwt i5
  · exact hypProj_chunk W R 4 _ (by decide) rfl x4 w b wt hx4 hw hb hwt i4
  · exact hypProj_chunk W R 3 _ (by decide) rfl x3 w b wt hx3 hw hb hwt i3
  · exact hypProj_chunk W R 2 _ (by decide) rfl x2 w b wt hx2 hw hb hwt i2
  · exact hypProj_chunk W R 1 _ (by decide) rfl x1 w b wt hx1 hw hb hwt i1
  · exact hypProj_chunk W R 0 _ (by decide) rfl x0 w b wt hx0 hw hb hwt i0

/-- A store of the whole buffer is read back as it was stored. -/
theorem whole_contents {κ : Kind} {sp : Space} {s : Shape} {e : EltTy} (v : View sig κ sp s e)
    (f : v.ty.Contents (Elt Ideal)) (off : Fin s.rank → Nat) (h : off = fun _ => 0) (inb) (Z : s.Idx → Elt Ideal e) :
    v.read (Elt Ideal) (v.writes (Elt Ideal) f [⟨Rect.unit off s.size inb, Z⟩]) = Z := by
  funext y
  refine View.read_writes_apply_of_pieces v f Z _ ?_ y
    ⟨_, List.mem_cons_self, View.mem_set_unit_zero h inb y⟩
  intro p hp
  simp only [List.mem_cons, List.not_mem_nil, or_false] at hp
  subst hp
  subst h
  intro x
  refine congrArg Z (funext fun a => Fin.ext ?_)
  show (x a).val = 0 + 1 * (x a).val
  omega

end Cert.KernelIdeal.Value
-- ==== Proof.KernelIdealMasks.lean ====
module
public import proofs.«01_k».proof.Proof.KernelIdealBlocks
public import proofs.«01_k».proof.Proof.Spec
public import Idealize.ShloMosaic.Lib.Pipeline.ValueKit
public import Idealize.ShloMosaic.Lib.Pointwise
public import Idealize.ShloMosaic.Lib.Pipeline.ReadBack

/-! The masks, the start state and the final log-softmax of the kernel over the extended reals, read at an index. -/

@[expose] public section

set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen

/-- A flag turned into a number is the number one or the number zero. -/
theorem flag_value (f : BitVec 1) :
    FloatOps.sitofp (F := Ideal) .f32 (BitVec.setWidth 32 f) = if f = 1#1 then 1 else 0 := by
  revert f
  have : ∀ f : BitVec 1, f = 0#1 ∨ f = 1#1 := by decide
  intro f
  rcases this f with rfl | rfl
  · show (((BitVec.toInt _ : ℤ) : ℝ) : EReal) = _
    rw [show (BitVec.setWidth 32 0#1).toInt = 0 by decide]; simp
  · show (((BitVec.toInt _ : ℤ) : ℝ) : EReal) = _
    rw [show (BitVec.setWidth 32 1#1).toInt = 1 by decide]; simp

/-- A flag turned into a number is positive exactly when the comparison holds. -/
theorem pos_flag (a b : BitVec 32) :
    ((0 : EReal) < FloatOps.sitofp (F := Ideal) .f32 (BitVec.setWidth 32 (IntOp.cmpi .slt a b))) ↔ a.slt b = true := by
  rw [flag_value, IntOp.cmpi]
  cases a.slt b <;> simp [IntOp.cmpi, BitVec.slt]

/-- Column `q` divided by 128, rounding down, as the block-diagonal mask works it out on words. -/
theorem column_block (q : Fin 2048) :
    Scalar.select
        (IntOp.andi
          (IntOp.cmpi CmpIPredicate.ne
            (IntOp.subi (BitVec.setWidth 32 (IntOp.cmpi CmpIPredicate.sgt (BitVec.ofNat 32 q.val) 0#32))
              (BitVec.setWidth 32 (IntOp.cmpi CmpIPredicate.slt (BitVec.ofNat 32 q.val) 0#32)))
            (Scalar.subi (Scalar.extui (Scalar.cmpi CmpIPredicate.sgt 128#32 0#32))
              (Scalar.extui (Scalar.cmpi CmpIPredicate.slt 128#32 0#32))))
          (IntOp.cmpi CmpIPredicate.ne (IntOp.remsi ArithUnit.vector (BitVec.ofNat 32 q.val) 128#32) 0#32))
        (IntOp.subi (IntOp.divsi ArithUnit.vector (BitVec.ofNat 32 q.val) 128#32) 1#32)
        (IntOp.divsi ArithUnit.vector (BitVec.ofNat 32 q.val) 128#32)
      = BitVec.ofNat 32 (q.val / 128) := by
  revert q; decide +kernel

/-- Premise mask: position `s` of row `a` is flagged while it is before the row's length. -/
theorem premise_mask (v : Vec Ideal S1x16x1 .i32) (a : Fin 16) (s : Fin 128) :
    ((0 : EReal) < k0_pay81 (F := Ideal) v (ix2 a s)) ↔ (BitVec.ofNat 32 s.val).slt (v (ix3 0 a 0)) = true := by
  pointwise [k0_pay81]
  exact pos_flag _ _

/-- Hypothesis mask, the position first. -/
theorem hypothesis_mask (v : Vec Ideal S1x16x1 .i32) (t : Fin 128) (a : Fin 16) :
    ((0 : EReal) < k0_pay82 (F := Ideal) v (ix3 t a 0)) ↔ (BitVec.ofNat 32 t.val).slt (v (ix3 0 a 0)) = true := by
  pointwise [k0_pay82]
  exact pos_flag _ _

/-- Block-diagonal mask: column `q` belongs to row `q / 128`. -/
theorem block_mask (a : Fin 16) (q : Fin 2048) :
    k0_pay85 (F := Ideal) (iota .tc S16x2048 32 [0] iota_S16x2048_d0_w32) k0_pay83 k0_pay84 (ix2 a q)
      = if q.val / 128 = a.val then 1 else 0 := by
  pointwise [k0_pay85, k0_pay83, k0_pay84]
  rw [column_block, flag_value]
  have h : IntOp.cmpi CmpIPredicate.eq (BitVec.ofNat 32 (q.val / 128)) (BitVec.ofNat 32 a.val) = 1#1
      ↔ q.val / 128 = a.val := by
    have e : (BitVec.ofNat 32 (q.val / 128) = BitVec.ofNat 32 a.val) ↔ q.val / 128 = a.val := by
      rw [← BitVec.toNat_inj, BitVec.toNat_ofNat, BitVec.toNat_ofNat, Nat.mod_eq_of_lt (by omega),
        Nat.mod_eq_of_lt (by omega)]
    rw [← e]
    by_cases hq : BitVec.ofNat 32 (q.val / 128) = BitVec.ofNat 32 a.val
    · simp [IntOp.cmpi, hq]
    · have hf := beq_false_of_ne hq
      simp [IntOp.cmpi, hf, hq]
  simp only [h]

/-- The match state starts at zero. -/
theorem start_state (a : Fin 16) (n : Fin 512) : k0_pay86 (F := Ideal) (ix2 a n) = 0 := by
  pointwise [k0_pay86]

/-- The stored block: log-softmax of the logits. -/
theorem output (h : FVec Ideal S16x512 .f32) (w : Vec Ideal S512x3 .f32) (b : Vec Ideal S1x3 .f32) (a : Fin 16) (n : Fin 3) :
    k0_pay1 (k0_pay88 h w b) (k0_pay89 h w b) (ix2 a n)
      = Net.logWeight (fun n => ∑ x, h (ix2 a x) * w (ix2 x n) + b (ix2 0 n)) n := by
  pointwise [k0_pay1, k0_pay88, k0_pay89, Net.logWeight, Net.top]

end Cert.KernelIdeal.Value
-- ==== Proof.KernelIdealPoint.lean ====
module
public import proofs.«01_k».proof.Proof.KernelIdealLoop
public import proofs.«01_k».proof.Proof.KernelIdealScratch
public import proofs.«01_k».proof.Proof.KernelIdealMasks
public import proofs.«01_k».proof.Proof.Spec
public import Idealize.ShloMosaic.Lib.Pipeline.ValueKit
public import Idealize.ShloMosaic.Lib.Pointwise
public import Idealize.ShloMosaic.Lib.Pipeline.ReadBack

/-! The block that one grid point leaves, as the network's answer for the rows its input blocks hold. -/

@[expose] public section

set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen

variable (m : (ℓ : Loc nD τ sig) → Buf (Elt Ideal) ℓ) (c : Dev nD)

/-- The weights, as the blocks of a grid point hold them. -/
def blockWeights (t : Fin cfg0.N) : Net.Weights where
  wp e g := (iblk m c 4 t : Vec Ideal S300x2048 .bf16) (ix2 e g)
  bp g := (iblk m c 5 t : Vec Ideal S1x2048 .f32) (ix2 0 g)
  wh e g := (iblk m c 6 t : Vec Ideal S300x2048 .bf16) (ix2 e g)
  bh g := (iblk m c 7 t : Vec Ideal S1x2048 .f32) (ix2 0 g)
  ws y n := (iblk m c 8 t : Vec Ideal S512x512 .bf16) (ix2 y n)
  wt y n := (iblk m c 9 t : Vec Ideal S512x512 .bf16) (ix2 y n)
  wm y n := (iblk m c 10 t : Vec Ideal S512x512 .bf16) (ix2 y n)
  wa y g := (iblk m c 11 t : Vec Ideal S512x2048 .bf16) (ix2 y g)
  wb y g := (iblk m c 12 t : Vec Ideal S512x2048 .bf16) (ix2 y g)
  bm g := (iblk m c 13 t : Vec Ideal S1x2048 .f32) (ix2 0 g)
  we x := (iblk m c 14 t : Vec Ideal S1x1x512 .f32) (ix3 0 0 x)
  fw y n := (iblk m c 15 t : Vec Ideal S512x3 .f32) (ix2 y n)
  fb n := (iblk m c 16 t : Vec Ideal S1x3 .f32) (ix2 0 n)

/-- Batch row `a` of a grid point, as its blocks hold it. -/
def blockRow (t : Fin cfg0.N) (a : Fin 16) : Net.Row where
  prem s e := (iblk m c 0 t : Vec Ideal S16x128x300 .bf16) (ix3 a s e)
  hyp s e := (iblk m c 1 t : Vec Ideal S128x16x300 .bf16) (ix3 s a e)
  pl := (iblk m c 2 t : Vec Ideal S1x16x1 .i32) (ix3 0 a 0)
  hl := (iblk m c 3 t : Vec Ideal S1x16x1 .i32) (ix3 0 a 0)

/-- A load of a held block, at a unit-stride rectangle, reads the block at the shifted index. -/
theorem load_at {κ : Kind} {sp : Space} {s : Shape} {e : EltTy} (M : Memref sig κ sp s e) (hM : M.IsWhole)
    (X : s.Idx → Elt Ideal e) (off size : Fin s.rank → Nat) (inb) (x : (Rect.unit off size inb).shape.Idx)
    (i : s.Idx) (hi : ∀ a, (i a : Nat) = off a + x a) :
    View.readAt (Elt Ideal) M.view (Rect.unit off size inb).toLoadRect (hM.unread X) x = X i := by
  rw [readAt_at _ _ _ _ _ _ i hi, hM.read_unread]

set_option maxHeartbeats 4000000 in
/-- The block a grid point leaves: the network's answer for each of its rows. -/
theorem point_value (t : Fin cfg0.N) (a : Fin 16) (n : Fin 3) :
    outsAt0 m c t (ix2 a n) = Net.out (blockWeights m c t) (blockRow m c t a) n := by
  unfold outsAt0
  frame_open
  refine (congrFun (whole_contents (s := S16x3) _ _ ![0, 0] (by decide) _ _) _).trans ?_
  refine (output _ _ _ a n).trans ?_
  unfold Net.out
  refine congrArg (fun f : Fin 3 → EReal => Net.logWeight f n) (funext fun n' => ?_)
  unfold Net.logit
  refine congrArg₂ (fun p q : EReal => p + q) (Finset.sum_congr rfl fun x _ => congrArg₂ (fun p q : EReal => p * q) ?_ ?_) ?_
  · refine (loop_state c (blockWeights m c t) (blockRow m c t) _ _ _ _ _ _ _ _ _ _ _ _ _ _ _ _ _ _ _ _ _ _ _ _ _ _ _ _ _ _ _
      _ _ _ _ _ _ _ _ _ _ _ _ _ _ _ _ _ _ _ _ _ _ _ _ _ _ _ _ _ _ ?_ ?_ ?_ ?_ ?_ ?_ ?_ ?_ ?_ ?_ _ ?_ _ ?_ a x).trans ?_
    · exact fun y x => congrFun (Memref.IsWhole.read_unread _ _) _
    · exact fun y x => congrFun (Memref.IsWhole.read_unread _ _) _
    · exact fun x => congrFun (Memref.IsWhole.read_unread _ _) _
    · intro q n
      refine (congrFun (hidden_contents (blockWeights m c t) (blockRow m c t) _ _ _ _ _ _ _ _ _ _ _ _ ?_ ?_ ?_ ?_ ?_ ?_ ?_ ?_ ?_ ?_ _ _ _ _ _ _ _ _) (ix2 q n)).trans rfl
      iterate 8
        · intro p q e
          exact load_at _ _ _ _ _ _ _ _ (by
            intro d; fin_cases d
            · first | rfl | exact (Nat.zero_add _).symm
            · exact (Nat.zero_add _).symm
            · exact (Nat.zero_add _).symm)
      all_goals
        intros
        exact load_at _ _ _ _ _ _ _ _ (by intro d; fin_cases d <;> exact (Nat.zero_add _).symm)
    · intro p s x
      refine (congrFun (proj_contents (blockWeights m c t) (blockRow m c t) _ _ _ _ _ _ _ _ _ _ _ _ _ ?_ ?_ ?_ ?_ ?_ ?_ ?_ ?_ ?_ ?_ ?_ _ _ _ _ _ _ _ _)
        (ix3 p s x)).trans rfl
      iterate 8
        · intro p q e
          exact load_at _ _ _ _ _ _ _ _ (by
            intro d; fin_cases d
            · first | rfl | exact (Nat.zero_add _).symm
            · exact (Nat.zero_add _).symm
            · exact (Nat.zero_add _).symm)
      all_goals
        intros
        exact load_at _ _ _ _ _ _ _ _ (by intro d; fin_cases d <;> exact (Nat.zero_add _).symm)
    · intro s p g
      refine (congrFun (gates_contents (blockWeights m c t) (blockRow m c t) _ _ _ _ _ _ _ _ _ _ _ _ _ _ ?_ ?_ ?_ ?_ ?_ ?_ ?_ ?_ ?_ ?_ ?_ ?_ _ _ _ _ _ _ _ _)
        (ix3 s p g)).trans rfl
      iterate 8
        · intro p q e
          exact load_at _ _ _ _ _ _ _ _ (by
            intro d; fin_cases d
            · first | rfl | exact (Nat.zero_add _).symm
            · exact (Nat.zero_add _).symm
            · exact (Nat.zero_add _).symm)
      all_goals
        intros
        exact load_at _ _ _ _ _ _ _ _ (by intro d; fin_cases d <;> exact (Nat.zero_add _).symm)
    · intro s p x
      refine (congrFun (hypProj_contents (blockWeights m c t) (blockRow m c t) _ _ _ _ _ _ _ _ _ _ _ _ _ ?_ ?_ ?_ ?_ ?_ ?_ ?_ ?_ ?_ ?_ ?_ _ _ _ _ _ _ _ _)
        (ix3 s p x)).trans rfl
      iterate 8
        · intro p q e
          exact load_at _ _ _ _ _ _ _ _ (by
            intro d; fin_cases d
            · first | rfl | exact (Nat.zero_add _).symm
            · exact (Nat.zero_add _).symm
            · exact (Nat.zero_add _).symm)
      all_goals
        intros
        exact load_at _ _ _ _ _ _ _ _ (by intro d; fin_cases d <;> exact (Nat.zero_add _).symm)
    · intro p s
      rw [whole_contents (s := S16x128) _ _ ![0, 0] (by decide) _ _, premise_mask,
        load_at _ _ _ _ _ _ _ (ix3 0 p 0) (by intro d; fin_cases d <;> exact (Nat.zero_add _).symm)]
      rfl
    · intro s p
      rw [whole_contents (s := S128x16x1) _ _ ![0, 0, 0] (by decide) _ _, hypothesis_mask,
        load_at _ _ _ _ _ _ _ (ix3 0 p 0) (by intro d; fin_cases d <;> exact (Nat.zero_add _).symm)]
      rfl
    · intro p q
      rw [whole_contents (s := S16x2048) _ _ ![0, 0] (by decide) _ _, block_mask]
    · exact start_state
    · exact le_of_eq trips_eq
    · exact congrArg (fun k => Net.state (blockWeights m c t) (blockRow m c t a) k x) trips_eq
  · exact load_at _ _ _ _ _ _ _ _ (by intro d; fin_cases d <;> exact (Nat.zero_add _).symm)
  · exact load_at _ _ _ _ _ _ _ _ (by intro d; fin_cases d <;> exact (Nat.zero_add _).symm)

end Cert.KernelIdeal.Value
-- ==== Proof.KernelIdealOutput.lean ====
module
public import proofs.«01_k».proof.Proof.KernelIdealBlocks
public import proofs.«01_k».proof.Proof.Spec
public import Idealize.ShloMosaic.Lib.Pipeline.ValueKit
public import proofs.«01_k».proof.Proof.Inputs
public import proofs.«01_k».proof.Proof.KernelIdealInputs
public import proofs.«01_k».proof.Proof.KernelIdealPoint
public import Idealize.ShloMosaic.Lib.Pointwise
public import Idealize.ShloMosaic.Lib.Pipeline.ReadBack

/-! The kernel's output array over the extended reals: the network's answer for every row. -/

@[expose] public section

set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen

variable (m : (ℓ : Loc nD τ sig) → Buf (Elt Ideal) ℓ) (c : Dev nD)

/-- The weights the program was launched with. -/
def weights : Net.Weights :=
  Net.weightsOf (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))

/-- Row `b` of the batch the program was launched with. -/
def row (b : Fin 64) : Net.Row :=
  Net.rowOf (embedded m c (m ((c : Thread nD τ).loc main_arg0))) (embedded m c (m ((c : Thread nD τ).loc main_arg2)))
    (m ((c : Thread nD τ).loc main_arg1)) (m ((c : Thread nD τ).loc main_arg3)) b

/-- Every grid point works with the launched weights. -/
theorem blockWeights_eq (t : Fin cfg0.N) : blockWeights m c t = weights m c := by
  simp only [blockWeights, weights, Net.weightsOf, block4, block5, block6, block7, block8, block9, block10, block11,
    block12, block13, block14, block15, block16]

/-- Grid point `t` works on rows `16 * t` to `16 * t + 15`. -/
theorem blockRow_eq (t : Fin cfg0.N) (a : Fin 16) :
    blockRow m c t a = row m c ⟨16 * t.val + a.val, by have : t.val < 4 := t.isLt; omega⟩ := by
  simp only [blockRow, row, Net.rowOf, block0, block1, block2, block3]

/-- Where the output block of grid point `t` lies. -/
theorem idx17 : ∀ t : Fin cfg0.N, win0_17.index t = ![t.val, 0] :=
  (by decide +kernel : ∀ t : Fin grid0.N, win0_17.index t = ![t.val, 0])

/-- The output array: the network's answer for every row. -/
theorem output_array :
    (dats m 0 c).arrAt 17 cfg0.N = fun y => Net.out (weights m c) (row m c (y 0)) (y 1) := by
  refine (dats m 0 c).arrAt_eq_of_covers 17 _ (by decide +kernel) fun t hf y => ?_
  blk_simp
  rw [after0_17]
  obtain ⟨a, n, rfl⟩ := exists_ix2 (y : S16x3.Idx)
  refine (point_value m c t a n).trans ?_
  rw [blockWeights_eq, blockRow_eq]
  have h : (win0_17.blk t).view.emb (ix2 a n)
      = (ix2 ⟨16 * t.val + a.val, by have : t.val < 4 := t.isLt; omega⟩ n : S64x3.Idx) := by
    blk_ext [idx17 t]
  rw [h]
  rfl

end Cert.KernelIdeal.Value
-- ==== Proof.ReferenceIdealTrip.lean ====
module
public import proofs.«01_k».proof.Proof.Gen.ReferenceIdeal.Run
public import proofs.«01_k».proof.Proof.Spec
public import Idealize.ShloMosaic.Lib.Pipeline.ValueKit
public import Idealize.ShloMosaic.Lib.Pointwise
public import Idealize.ShloMosaic.Lib.StableHlo.ReadAt

/-! One trip of the reference's loop, read at an index, and the trips iterated: the match state of every row. -/

@[expose] public section

set_option maxRecDepth 16384
noncomputable section
open Idealize.ShloMosaic Idealize.ShloMosaic.TcCoe Idealize.SL.Sem
open Idealize.ShloMosaic.StableHlo Idealize.ShloMosaic.HostLoop
namespace Cert.ReferenceIdeal.Value
open Cert.ReferenceIdeal Cert.ReferenceIdeal.Gen

/-- What the carried arrays hold before trip `k`, apart from the match state: the constants of the loop, and the trip counter. -/
structure Holds (W : Net.Weights) (R : Fin 64 → Net.Row) (k : Nat) (V : Valuation τ sig (Elt Ideal)) : Prop where
  pos (s : Fin 128) : V (Proc.devRef .tc main_v78_0) (ix1 s) = BitVec.ofNat 32 s.val
  tp (t : Fin 128) (b : Fin 64) (n : Fin 512) : V (Proc.devRef .tc main_v78_1) (ix3 t b n) = Net.tp W (R b) t n
  ht (t : Fin 128) (b : Fin 64) (n : Fin 512) : V (Proc.devRef .tc main_v78_2) (ix3 t b n) = Net.ht W (R b) t n
  wm (y n : Fin 512) : V (Proc.devRef .tc main_v78_3) (ix2 n y) = W.wm y n
  sp (b : Fin 64) (s : Fin 128) (n : Fin 512) : V (Proc.devRef .tc main_v78_4) (ix3 b s n) = Net.sp W (R b) s n
  we (x : Fin 512) : V (Proc.devRef .tc main_v78_5) (ix1 x) = W.we x
  mask (b : Fin 64) (s : Fin 128) : V (Proc.devRef .tc main_v78_6) (ix2 b s)
    = IntOp.cmpi .slt (BitVec.ofNat 32 s.val) (R b).pl
  hs (b : Fin 64) (s : Fin 128) (n : Fin 512) : V (Proc.devRef .tc main_v78_7) (ix3 b s n) = Net.hs W (R b) s n
  wa (y : Fin 512) (g : Fin 2048) : V (Proc.devRef .tc main_v78_8) (ix2 g ⟨y.val, by omega⟩) = W.wa y g
  wb (y : Fin 512) (g : Fin 2048) : V (Proc.devRef .tc main_v78_8) (ix2 g ⟨512 + y.val, by omega⟩) = W.wb y g
  bm (g : Fin 2048) : V (Proc.devRef .tc main_v78_9) (ix1 g) = W.bm g
  hl (b : Fin 64) : V (Proc.devRef .tc main_v78_10) (ix1 b) = (R b).hl
  ctr (i : S_.Idx) : V (Proc.devRef .tc main_v78_11) i = BitVec.ofNat 32 k

/-- A select on a comparison is an `if`. -/
theorem select_slt {α : Type} (x y : BitVec 32) (p q : α) :
    Scalar.select (IntOp.cmpi .slt x y) p q = if x.slt y then p else q := by
  unfold Scalar.select IntOp.cmpi
  by_cases h : x.slt y <;> simp [h]

variable {W : Net.Weights} {R : Fin 64 → Net.Row} {V : Valuation τ sig (Elt Ideal)} (k : Fin 128)

/-- The counter as a number. -/
theorem ctr_toInt (x : S_.Idx) (H : Holds W R k V) : (V (Proc.devRef .tc main_v78_11) x).toInt = (k.val : Int) := by
  rw [H.ctr]
  have := k.isLt
  rw [BitVec.toInt_eq_toNat_cond, BitVec.toNat_ofNat, Nat.mod_eq_of_lt (by omega), if_pos (by omega)]

/-- One number sliced out of an array of one number a position. -/
theorem slice1 (A : Vec Ideal S128 .i32) (st : Fin 1 → Int) (h : st 0 = (k.val : Int)) :
    shapeCast S_ (Host.dynamicSlice S1 A st sliceFits_S128_S1) shapeCasts_S1_S_ ix0 = A (ix1 k) := by
  have e : Host.clampedStart S128 S1 rfl st 0 = k.val :=
    Host.clampedStart_of_le (s := S128) (t := S1) rfl st 0 k.val h (by show k.val + 1 ≤ 128; omega)
  pointwise
  exact congrArg A (congrArg ix1 (Fin.ext e))

/-- One position sliced out of an array with positions in front. -/
theorem slice3 (A : Vec Ideal S128x64x512 .f32) (st : Fin 3 → Int) (h0 : st 0 = (k.val : Int)) (h1 : st 1 = ((0 : Nat) : Int))
    (h2 : st 2 = ((0 : Nat) : Int)) (b : Fin 64) (n : Fin 512) :
    shapeCast S64x512 (Host.dynamicSlice S1x64x512 A st sliceFits_S128x64x512_S1x64x512) shapeCasts_S1x64x512_S64x512 (ix2 b n)
      = A (ix3 k b n) := by
  have e0 : Host.clampedStart S128x64x512 S1x64x512 rfl st 0 = k.val :=
    Host.clampedStart_of_le (s := S128x64x512) (t := S1x64x512) rfl st 0 k.val h0 (by show k.val + 1 ≤ 128; omega)
  have e1 : Host.clampedStart S128x64x512 S1x64x512 rfl st 1 = 0 :=
    Host.clampedStart_of_le (s := S128x64x512) (t := S1x64x512) rfl st 1 0 h1 (by show 0 + 64 ≤ 64; omega)
  have e2 : Host.clampedStart S128x64x512 S1x64x512 rfl st 2 = 0 :=
    Host.clampedStart_of_le (s := S128x64x512) (t := S1x64x512) rfl st 2 0 h2 (by show 0 + 512 ≤ 512; omega)
  pointwise
  simp only [e0, e1, e2, Nat.zero_add]

/-- The masked scores, read at an index. -/
theorem scores (M : Vec Ideal S64x128 .i1) (P : FVec Ideal S64x128x512 .f32) (Q H : FVec Ideal S64x512 .f32)
   (U : FVec Ideal S512x512 .f32) (X : FVec Ideal S512 .f32) (b : Fin 64) (s : Fin 128) :
  select M (Host.dotGeneral dot_S64x128x512_S512_S64x128_2_0_01_n_n_n none (Host.tanh (addf P (broadcastInDim S64x128x512 ![0, 1, 2] bcast_S64x1x512_S64x128x512_0_1_2 (broadcastInDim S64x1x512 ![0, 2] bcast_S64x512_S64x1x512_0_2 (addf Q (Host.dotGeneral dot_S64x512_S512x512_S64x512_1_0_0_1_n_n none H (transpose S512x512 [1, 0] U transposes_S512x512_S512x512_1_0))))))) X) (broadcastInDim S64x128 ![] bcast_S_S64x128 (id (constant S_ .f32 0xCE6E6B28#32))) (ix2 b s)
   = Scalar.select (M (ix2 b s)) (∑ x, Ideal.tanh (P (ix3 b s x) + (Q (ix2 b x) + ∑ y, H (ix2 b y) * U (ix2 x y))) * X (ix1 x)) (Ideal.ofBits .f32 0xCE6E6B28#32) := by
  rw [id_eq]
  pointwise

/-- The shifted exponentials, read at an index. -/
theorem shifted (A : FVec Ideal S64x128 .f32) (b : Fin 64) (s : Fin 128) :
  Host.exp (subf A (broadcastInDim S64x128 ![0, 1] bcast_S64x1_S64x128_0_1 (broadcastInDim S64x1 ![0] bcast_S64_S64x1_0 (maximumf (broadcastInDim S64 ![] bcast_S_S64 (constant S_ .f32 0xFF800000#32)) (Host.reduce FloatOps.maximumf A (constant S_ .f32 0xFF800000#32) reducesTo_S64x128_S64_d1 h_S_))))) (ix2 b s)
  = Ideal.exp (A (ix2 b s) - Net.top fun s => A (ix2 b s)) := by
  rw [← Net.max_top]
  unfold Net.top
  pointwise

/-- The gates of the match cell, read at an index. -/
theorem gates (E : FVec Ideal S64x128 .f32) (S : FVec Ideal S64x128x512 .f32) (Q : FVec Ideal S64x512 .f32)
   (U : FVec Ideal S2048x1024 .f32) (X : FVec Ideal S2048 .f32) (b : Fin 64) (g : Fin 2048) :
  addf (Host.dotGeneral dot_S64x1024_S1024x2048_S64x2048_1_0_0_1_n_n none (concatenate S64x1024 1 [⟨S64x512, (Host.dotGeneral dot_S64x128_S64x128x512_S64x512_1_1_n_2_0_0 none (Host.divf E (broadcastInDim S64x128 ![0, 1] bcast_S64x1_S64x128_0_1 (broadcastInDim S64x1 ![0] bcast_S64_S64x1_0 (Host.reduceAdd E (constant S_ .f32 0x00000000#32) reducesTo_S64x128_S64_d1 h_S_)))) S)⟩, ⟨S64x512, Q⟩] concatenates_S64x512_S64x512_S64x1024_d1) (transpose S1024x2048 [1, 0] U transposes_S2048x1024_S1024x2048_1_0)) (broadcastInDim S64x2048 ![0, 1] bcast_S1x2048_S64x2048_0_1 (broadcastInDim S1x2048 ![1] bcast_S2048_S1x2048_1 X)) (ix2 b g)
   = ∑ x : Fin 512, (∑ s, Ideal.div (E (ix2 b s)) (∑ z, E (ix2 b z)) * S (ix3 b s x)) * U (ix2 g ⟨x.val, by omega⟩)
     + ∑ x : Fin 512, Q (ix2 b x) * U (ix2 g ⟨512 + x.val, by omega⟩) + X (ix1 g) := by
  pointwise

/-- The next match state, read at an index. -/
theorem next (M : Vec Ideal S_ .i32) (L : Vec Ideal S64 .i32) (G : FVec Ideal S64x2048 .f32) (H : FVec Ideal S64x512 .f32) (b : Fin 64) (n : Fin 512) :
  select (broadcastInDim S64x512 ![0, 1] bcast_S64x1_S64x512_0_1 (broadcastInDim S64x1 ![0] bcast_S64_S64x1_0 (cmpi .slt (broadcastInDim S64 ![] bcast_S_S64 M) L))) (mulf (Host.divf (broadcastInDim S64x512 ![] bcast_S_S64x512 (constant S_ .f32 0x3F800000#32)) (addf (broadcastInDim S64x512 ![] bcast_S_S64x512 (constant S_ .f32 0x3F800000#32)) (Host.exp (Host.negf (extractStridedSlice S64x512 ![0, 1536] G slices_S64x2048_S64x512_0_1536))))) (Host.tanh (mulf (Host.divf (broadcastInDim S64x512 ![] bcast_S_S64x512 (constant S_ .f32 0x3F800000#32)) (addf (broadcastInDim S64x512 ![] bcast_S_S64x512 (constant S_ .f32 0x3F800000#32)) (Host.exp (Host.negf (extractStridedSlice S64x512 ![0, 0] G slices_S64x2048_S64x512_0_0))))) (Host.tanh (extractStridedSlice S64x512 ![0, 1024] G slices_S64x2048_S64x512_0_1024))))) H (ix2 b n)
   = Scalar.select (IntOp.cmpi .slt (M ix0) (L (ix1 b))) (Net.cell (fun g => G (ix2 b g)) n) (H (ix2 b n)) := by
  unfold Net.cell Ideal.logistic Net.gate
  pointwise

/-- A trip's scores. -/
theorem v96_at (H : Holds W R k V) (b : Fin 64) (h : Fin 512 → EReal)
    (hh : ∀ n, V (Proc.devRef .tc main_v78_12) (ix2 b n) = h n) (s : Fin 128) :
    res_main_while0b_v96 V (ix2 b s)
      = Net.score (R b).pl (Net.sp W (R b)) (fun n => Net.tp W (R b) k n + ∑ x, h x * W.wm x n) W.we s := by
  unfold res_main_while0b_v96 Net.score
  refine (scores _ _ _ _ _ _ b s).trans ?_
  rw [H.mask, select_slt]
  congr 1
  refine Finset.sum_congr rfl fun x _ => ?_
  rw [slice3 k _ _ (ctr_toInt k _ H) rfl rfl b x]
  simp only [H.sp, H.tp, H.wm, H.we, hh]

/-- A trip's shifted exponentials. -/
theorem v103_at (b : Fin 64) (E : Fin 128 → EReal) (hE : ∀ s, res_main_while0b_v96 V (ix2 b s) = E s) (s : Fin 128) :
    res_main_while0b_v103 V (ix2 b s) = Ideal.exp (E s - Net.top E) := by
  unfold res_main_while0b_v103
  refine (shifted _ b s).trans ?_
  rw [hE, funext hE]

/-- A trip's gates. -/
theorem v114_at (H : Holds W R k V) (b : Fin 64) (h : Fin 512 → EReal)
    (hh : ∀ n, V (Proc.devRef .tc main_v78_12) (ix2 b n) = h n) (g : Fin 2048) :
    res_main_while0b_v114 V (ix2 b g) = Net.gates W (R b) k h g := by
  unfold res_main_while0b_v114 Net.gates Net.gh Net.ctx Net.attn Net.weight
  refine (gates _ _ _ _ _ b g).trans ?_
  rw [add_assoc]
  simp only [v103_at b _ (v96_at k H b h hh), H.hs, H.wa, H.wb, H.bm]
  refine congrArg₂ (fun p q : EReal => p + q) rfl (congrArg₂ (fun p q : EReal => p + q) ?_ rfl)
  refine Finset.sum_congr rfl fun x _ => ?_
  rw [slice3 k _ _ (ctr_toInt k _ H) rfl rfl b x, H.ht]

/-- One trip makes one step of the match state. -/
theorem step_at (H : Holds W R k V) (b : Fin 64) (h : Fin 512 → EReal)
    (hh : ∀ n, V (Proc.devRef .tc main_v78_12) (ix2 b n) = h n) (n : Fin 512) :
    step_main_v78_12 V (ix2 b n) = Net.step W (R b) k h n := by
  unfold step_main_v78_12 Net.step
  rw [id_eq]
  refine (next _ _ _ _ b n).trans ?_
  rw [slice1 k _ _ (ctr_toInt k _ H), H.pos, H.hl, select_slt, hh, funext fun g => v114_at k H b h hh g]

/-- One trip keeps the loop's constants and counts up. -/
theorem holds_step {j : Nat} (H : Holds W R j V) : Holds W R (j + 1) (STEP V) where
  pos s := by rw [STEP_main_v78_0]; exact H.pos s
  tp t b n := by rw [STEP_main_v78_1]; exact H.tp t b n
  ht t b n := by rw [STEP_main_v78_2]; exact H.ht t b n
  wm y n := by rw [STEP_main_v78_3]; exact H.wm y n
  sp b s n := by rw [STEP_main_v78_4]; exact H.sp b s n
  we x := by rw [STEP_main_v78_5]; exact H.we x
  mask b s := by rw [STEP_main_v78_6]; exact H.mask b s
  hs b s n := by rw [STEP_main_v78_7]; exact H.hs b s n
  wa y g := by rw [STEP_main_v78_8]; exact H.wa y g
  wb y g := by rw [STEP_main_v78_8]; exact H.wb y g
  bm g := by rw [STEP_main_v78_9]; exact H.bm g
  hl b := by rw [STEP_main_v78_10]; exact H.hl b
  ctr i := by
    rw [STEP_main_v78_11]
    exact (congrArg (fun x : BitVec 32 => x + 1#32) (H.ctr i)).trans (BitVec.ofNat_add j 1).symm

/-- Trips iterated from the loop's entry step the match state from zero. -/
theorem iterated (V0 : Valuation τ sig (Elt Ideal)) (H : Holds W R 0 V0)
    (h0 : ∀ (b : Fin 64) (n : Fin 512), V0 (Proc.devRef .tc main_v78_12) (ix2 b n) = (0 : EReal)) :
    ∀ j : Nat, j ≤ 128 → Holds W R j (STEP^[j] V0)
      ∧ ∀ (b : Fin 64) (n : Fin 512), (STEP^[j] V0) (Proc.devRef .tc main_v78_12) (ix2 b n) = Net.state W (R b) j n
  | 0, _ => ⟨H, h0⟩
  | j + 1, hj => by
    obtain ⟨Hj, hs⟩ := iterated V0 H h0 j (by omega)
    rw [Function.iterate_succ_apply']
    refine ⟨holds_step Hj, fun b n => ?_⟩
    rw [STEP_main_v78_12]
    exact (step_at ⟨j, by omega⟩ Hj b _ (hs b) n).trans (congrFun (Net.state_succ W (R b) ⟨j, by omega⟩).symm n)

end Cert.ReferenceIdeal.Value
-- ==== Proof.ReferenceIdealEntry.lean ====
module
public import proofs.«01_k».proof.Proof.Gen.ReferenceIdeal.Run
public import proofs.«01_k».proof.Proof.Inputs
public import proofs.«01_k».proof.Proof.ReferenceIdealTrip
public import Idealize.ShloMosaic.Lib.Pipeline.ValueKit
public import Idealize.ShloMosaic.Lib.Pointwise
public import Idealize.ShloMosaic.Lib.StableHlo.ReadAt

/-! What the reference's loop starts from, and what the reference returns: the network's answer for every row. -/

@[expose] public section

set_option maxRecDepth 16384
noncomputable section
open Idealize.ShloMosaic Idealize.ShloMosaic.TcCoe Idealize.SL.Sem
open Idealize.ShloMosaic.StableHlo Idealize.ShloMosaic.HostLoop
namespace Cert.ReferenceIdeal.Value
open Cert.ReferenceIdeal Cert.ReferenceIdeal.Gen
variable (m : (ℓ : Loc nD τ sig) → Buf (Elt Ideal) ℓ) (c : Dev nD)

/-- The embedded words of a batch of word numbers. -/
def embedded (a : (⟨2, ![64, 128]⟩ : Shape).Idx → BitVec 32) : FVec Ideal S64x128x300 .f32 :=
  Host.gather gather_S32000x300_S64x128x1_S64x128x300_2_0_n_n_0_2_1300 (m ((c.tc : Thread nD τ).loc main_arg4))
    (broadcastInDim S64x128x1 ![0, 1] bcast_S64x128_S64x128x1_0_1
      (select (cmpi CmpIPredicate.slt a (broadcastInDim S64x128 ![] bcast_S_S64x128 (constantI S_ 32 0#32)))
        (addi a (broadcastInDim S64x128 ![] bcast_S_S64x128 (constantI S_ 32 32000#32))) a))

/-- The weights the program was launched with. -/
def weights : Net.Weights :=
  Net.weightsOf (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))

/-- Row `b` of the batch the program was launched with. -/
def row (b : Fin 64) : Net.Row :=
  Net.rowOf (embedded m c (m ((c.tc : Thread nD τ).loc main_arg0))) (embedded m c (m ((c.tc : Thread nD τ).loc main_arg2)))
    (m ((c.tc : Thread nD τ).loc main_arg1)) (m ((c.tc : Thread nD τ).loc main_arg3)) b

/-- An encoder's cells, read at an index. -/
theorem cells (G : FVec Ideal S64x128x2048 .f32) (b : Fin 64) (s : Fin 128) (n : Fin 512) :
    mulf (Host.divf (broadcastInDim S64x128x512 ![] bcast_S_S64x128x512 (constant S_ .f32 0x3F800000#32)) (addf (broadcastInDim S64x128x512 ![] bcast_S_S64x128x512 (constant S_ .f32 0x3F800000#32)) (Host.exp (Host.negf (extractStridedSlice S64x128x512 ![0, 0, 1536] G slices_S64x128x2048_S64x128x512_0_0_1536))))) (Host.tanh (mulf (Host.divf (broadcastInDim S64x128x512 ![] bcast_S_S64x128x512 (constant S_ .f32 0x3F800000#32)) (addf (broadcastInDim S64x128x512 ![] bcast_S_S64x128x512 (constant S_ .f32 0x3F800000#32)) (Host.exp (Host.negf (extractStridedSlice S64x128x512 ![0, 0, 0] G slices_S64x128x2048_S64x128x512_0_0_0))))) (Host.tanh (extractStridedSlice S64x128x512 ![0, 0, 1024] G slices_S64x128x2048_S64x128x512_0_0_1024)))) (ix3 b s n)
      = Net.cell (fun g => G (ix3 b s g)) n := by
  unfold Net.cell Ideal.logistic Net.gate
  pointwise

/-- An encoder's gates, read at an index. -/
theorem affine (X : FVec Ideal S64x128x300 .f32) (U : FVec Ideal S2048x300 .f32) (B : FVec Ideal S2048 .f32) (b : Fin 64)
    (s : Fin 128) (g : Fin 2048) :
    addf (Host.dotGeneral dot_S64x128x300_S300x2048_S64x128x2048_2_0_01_1_n_n none X (transpose S300x2048 [1, 0] U transposes_S2048x300_S300x2048_1_0))
      (broadcastInDim S64x128x2048 ![0, 1, 2] bcast_S1x1x2048_S64x128x2048_0_1_2 (broadcastInDim S1x1x2048 ![2] bcast_S2048_S1x1x2048_2 B)) (ix3 b s g)
      = ∑ e, X (ix3 b s e) * U (ix2 g e) + B (ix1 g) := by
  pointwise

/-- A projection, read at an index. -/
theorem projected (A : FVec Ideal S64x128x512 .f32) (U : FVec Ideal S512x512 .f32) (b : Fin 64) (s : Fin 128) (n : Fin 512) :
    Host.dotGeneral dot_S64x128x512_S512x512_S64x128x512_2_0_01_1_n_n none A (transpose S512x512 [1, 0] U transposes_S512x512_S512x512_1_0) (ix3 b s n)
      = ∑ x, A (ix3 b s x) * U (ix2 n x) := by
  pointwise

/-- Positions in front, read with rows in front. -/
theorem swapped (A : FVec Ideal S64x128x512 .f32) (b : Fin 64) (t : Fin 128) (n : Fin 512) :
    transpose S128x64x512 [1, 0, 2] A transposes_S64x128x512_S128x64x512_1_0_2 (ix3 t b n) = A (ix3 b t n) := by
  pointwise

/-- At the loop's entry. Premise hidden vectors. -/
theorem entry_hs (b : Fin 64) (s : Fin 128) (n : Fin 512) :
    entryContents preI m c (Proc.devRef .tc main_v78_7) (ix3 b s n) = Net.hs (weights m c) (row m c b) s n := by
  simp only [entryContents, afterL_cons, afterL_nil]
  after_reads_simp
  try rw [id_eq]
  refine (cells _ b s n).trans ?_
  unfold Net.hs Net.enc
  exact congrArg (fun f : Fin 2048 → EReal => Net.cell f n) (funext fun g => affine _ _ _ b s g)

/-- At the loop's entry. Hypothesis hidden vectors, positions in front. -/
theorem entry_ht (t : Fin 128) (b : Fin 64) (n : Fin 512) :
    entryContents preI m c (Proc.devRef .tc main_v78_2) (ix3 t b n) = Net.ht (weights m c) (row m c b) t n := by
  simp only [entryContents, afterL_cons, afterL_nil]
  after_reads_simp
  try rw [id_eq]
  refine (swapped _ b t n).trans ?_
  refine (cells _ b t n).trans ?_
  unfold Net.ht Net.enc
  exact congrArg (fun f : Fin 2048 → EReal => Net.cell f n) (funext fun g => affine _ _ _ b t g)

/-- At the loop's entry. Premise projections. -/
theorem entry_sp (b : Fin 64) (s : Fin 128) (n : Fin 512) :
    entryContents preI m c (Proc.devRef .tc main_v78_4) (ix3 b s n) = Net.sp (weights m c) (row m c b) s n := by
  simp only [entryContents, afterL_cons, afterL_nil]
  after_reads_simp
  try rw [id_eq]
  refine (projected _ _ b s n).trans ?_
  unfold Net.sp
  refine Finset.sum_congr rfl fun x _ => congrArg (fun p : EReal => p * _) ?_
  refine (cells _ b s x).trans ?_
  unfold Net.hs Net.enc
  exact congrArg (fun f : Fin 2048 → EReal => Net.cell f x) (funext fun g => affine _ _ _ b s g)

/-- At the loop's entry. Hypothesis projections, positions in front. -/
theorem entry_tp (t : Fin 128) (b : Fin 64) (n : Fin 512) :
    entryContents preI m c (Proc.devRef .tc main_v78_1) (ix3 t b n) = Net.tp (weights m c) (row m c b) t n := by
  simp only [entryContents, afterL_cons, afterL_nil]
  after_reads_simp
  try rw [id_eq]
  refine (swapped _ b t n).trans ?_
  refine (projected _ _ b t n).trans ?_
  unfold Net.tp
  refine Finset.sum_congr rfl fun x _ => congrArg (fun p : EReal => p * _) ?_
  refine (cells _ b t x).trans ?_
  unfold Net.ht Net.enc
  exact congrArg (fun f : Fin 2048 → EReal => Net.cell f x) (funext fun g => affine _ _ _ b t g)

/-- At the loop's entry. Position numbers. -/
theorem entry_pos (s : Fin 128) :
    entryContents preI m c (Proc.devRef .tc main_v78_0) (ix1 s) = BitVec.ofNat 32 s.val := by
  simp only [entryContents, afterL_cons, afterL_nil]
  after_reads_simp
  try rw [id_eq]
  pointwise

/-- At the loop's entry. State projection. -/
theorem entry_wm (y n : Fin 512) :
    entryContents preI m c (Proc.devRef .tc main_v78_3) (ix2 n y) = (weights m c).wm y n := by
  simp only [entryContents, afterL_cons, afterL_nil]
  after_reads_simp
  try rw [id_eq]
  rfl

/-- At the loop's entry. Attention vector. -/
theorem entry_we (x : Fin 512) :
    entryContents preI m c (Proc.devRef .tc main_v78_5) (ix1 x) = (weights m c).we x := by
  simp only [entryContents, afterL_cons, afterL_nil]
  after_reads_simp
  try rw [id_eq]
  rfl

/-- At the loop's entry. Which positions lie within the premise. -/
theorem entry_mask (b : Fin 64) (s : Fin 128) :
    entryContents preI m c (Proc.devRef .tc main_v78_6) (ix2 b s) = IntOp.cmpi .slt (BitVec.ofNat 32 s.val) (row m c b).pl := by
  simp only [entryContents, afterL_cons, afterL_nil]
  after_reads_simp
  try rw [id_eq]
  pointwise
  rfl

/-- At the loop's entry. Match cell, the attended half. -/
theorem entry_wa (y : Fin 512) (g : Fin 2048) :
    entryContents preI m c (Proc.devRef .tc main_v78_8) (ix2 g ⟨y.val, by omega⟩) = (weights m c).wa y g := by
  simp only [entryContents, afterL_cons, afterL_nil]
  after_reads_simp
  try rw [id_eq]
  rfl

/-- At the loop's entry. Match cell, the hypothesis half. -/
theorem entry_wb (y : Fin 512) (g : Fin 2048) :
    entryContents preI m c (Proc.devRef .tc main_v78_8) (ix2 g ⟨512 + y.val, by omega⟩) = (weights m c).wb y g := by
  simp only [entryContents, afterL_cons, afterL_nil]
  after_reads_simp
  try rw [id_eq]
  rfl

/-- At the loop's entry. Match cell bias. -/
theorem entry_bm (g : Fin 2048) :
    entryContents preI m c (Proc.devRef .tc main_v78_9) (ix1 g) = (weights m c).bm g := by
  simp only [entryContents, afterL_cons, afterL_nil]
  after_reads_simp
  try rw [id_eq]
  rfl

/-- At the loop's entry. Hypothesis lengths. -/
theorem entry_hl (b : Fin 64) :
    entryContents preI m c (Proc.devRef .tc main_v78_10) (ix1 b) = (row m c b).hl := by
  simp only [entryContents, afterL_cons, afterL_nil]
  after_reads_simp
  try rw [id_eq]
  rfl

/-- At the loop's entry. The match state starts from zero. -/
theorem entry_st (b : Fin 64) (n : Fin 512) :
    entryContents preI m c (Proc.devRef .tc main_v78_12) (ix2 b n) = (0 : EReal) := by
  simp only [entryContents, afterL_cons, afterL_nil]
  after_reads_simp
  try rw [id_eq]
  pointwise

/-- What the carried arrays hold at the loop's entry. -/
theorem entry_holds : Holds (weights m c) (row m c) 0 (entryContents preI m c) where
  pos s := entry_pos m c s
  tp t b n := entry_tp m c t b n
  ht t b n := entry_ht m c t b n
  wm y n := entry_wm m c y n
  sp b s n := entry_sp m c b s n
  we x := entry_we m c x
  mask b s := entry_mask m c b s
  hs b s n := entry_hs m c b s n
  wa y g := entry_wa m c y g
  wb y g := entry_wb m c y g
  bm g := entry_bm m c g
  hl b := entry_hl m c b
  ctr i := congrFun (ctr_entry m c) i

/-- The output, read at an index: the log-softmax of the logits. -/
theorem out_at (V : Valuation τ sig (Elt Ideal)) (b : Fin 64) (n : Fin 3) (h : Fin 512 → EReal) (fw : Fin 512 → Fin 3 → EReal)
    (fb : Fin 3 → EReal) (hh : ∀ x, V (Proc.devRef .tc main_v78_12) (ix2 b x) = h x)
    (hw : ∀ x n, V (Proc.devRef .tc main_arg15) (ix2 n x) = fw x n) (hb : ∀ n, V (Proc.devRef .tc main_arg16) (ix1 n) = fb n) :
    out_main_v84 V (ix2 b n) = Net.logWeight (fun n => ∑ x, h x * fw x n + fb n) n := by
  unfold out_main_v84 Net.logWeight
  rw [← Net.max_top]
  unfold Net.top
  pointwise
  simp only [hh, hw, hb]

/-- The reference's result: the network's answer for every row. -/
theorem output_array :
    out_main_v84 (STEP^[128] (entryContents preI m c)) = fun y => Net.out (weights m c) (row m c (y 0)) (y 1) := by
  funext y
  obtain ⟨b, n, rfl⟩ : ∃ (b : Fin 64) (n : Fin 3), y = ix2 b n := ⟨y 0, y 1, (ix2_eta (n0 := 64) (n1 := 3) y).symm⟩
  refine (out_at _ b n _ (weights m c).fw (weights m c).fb
    ((iterated _ (entry_holds m c) (entry_st m c) 128 le_rfl).2 b) (fun x n => ?_) fun n => ?_).trans rfl
  · exact congrFun (iter_main_arg15 m c 128) _
  · exact congrFun (iter_main_arg16 m c 128) _

end Cert.ReferenceIdeal.Value
-- ==== Proof.lean ====
module

public import proofs.«01_k».proof.Defs
public import proofs.«01_k».proof.Proof.KernelFrame
public import proofs.«01_k».proof.Proof.KernelIdealFrame
public import proofs.«01_k».proof.Proof.KernelIdealOutput
public import proofs.«01_k».proof.Proof.ReferenceIdealEntry
public import Idealize.ShloMosaic.Lib.Quiescent
public import Idealize.ShloMosaic.Lib.Claim

@[expose] public section

noncomputable section

namespace Cert.Proof

open Idealize.ShloMosaic Idealize.SL.Sem

/-- The reference runs to the end, keeps its arguments and leaves every counter at zero: it has no counters at all. -/
theorem reference_frame : @quiescent_ReferenceIdeal Cert.ReferenceIdeal.Gen.facts := fun m g _ =>
  (θ_run _ _ _).mono (fun r h => ⟨fun c => (h c).2, sem_eq_zero_of_no_sems (by decide) _⟩)
    (Cert.ReferenceIdeal.Value.run m g)

section

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ}
  (c : Dev Cert.KernelIdeal.nD)

/-- Embedding the same words by the same table gives the same array. -/
theorem embedded_eq {a a' : (⟨2, ![64, 128]⟩ : Shape).Idx → BitVec 32} (ha : a' = a)
    (h4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4)) :
    Cert.ReferenceIdeal.Value.embedded m' c a' = Cert.KernelIdeal.Value.embedded m c a := by
  subst ha
  unfold Cert.ReferenceIdeal.Value.embedded Cert.KernelIdeal.Value.embedded
  rw [h4]
  rfl

end

/-- The kernel over the extended reals computes what the reference computes: both give the network's answer for every row. -/
theorem algebraic : @algebraic_KernelIdeal_ReferenceIdeal Cert.KernelIdeal.Gen.facts Cert.ReferenceIdeal.Gen.facts := by
  pair_intro
  · run_from (Cert.KernelIdeal.Value.run_blocks m g)
  · refine (θ_run _ _ _).mono (fun r h c => ⟨(h c).1.trans ((Cert.ReferenceIdeal.Value.output_array m' c).trans (Eq.trans ?_ (Cert.KernelIdeal.Value.output_array m c).symm)), (h c).2⟩)
      (Cert.ReferenceIdeal.Value.run m' g')
    obtain ⟨h0, h1, h2, h3, h4, h5, h6, h7, h8, h9, h10, h11, h12, h13, h14, h15, h16⟩ := hagree c
    have hw : Cert.ReferenceIdeal.Value.weights m' c = Cert.KernelIdeal.Value.weights m c := by
      unfold Cert.ReferenceIdeal.Value.weights Cert.KernelIdeal.Value.weights
      rw [h5, h6, h7, h8, h9, h10, h11, h12, h13, h14, h15, h16]
    have hr : Cert.ReferenceIdeal.Value.row m' c = Cert.KernelIdeal.Value.row m c := by
      funext b
      unfold Cert.ReferenceIdeal.Value.row Cert.KernelIdeal.Value.row
      rw [embedded_eq c h0 h4, embedded_eq c h2 h4, h1, h3]
    rw [hw, hr]
    rfl

/-- The claim. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, reference_frame, trivial, algebraic⟩

end Cert.Proof

end
